-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v5_1)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x512 : Shape := ⟨2, ![16384, 512]⟩
abbrev S16384 : Shape := ⟨1, ![16384]⟩
abbrev S16384x3 : Shape := ⟨2, ![16384, 3]⟩
abbrev S512x512 : Shape := ⟨2, ![512, 512]⟩
abbrev S256x128 : Shape := ⟨2, ![256, 128]⟩
abbrev S256x8 : Shape := ⟨2, ![256, 8]⟩
abbrev S128x128 : Shape := ⟨2, ![128, 128]⟩
abbrev S128x256 : Shape := ⟨2, ![128, 256]⟩
abbrev S32771x512 : Shape := ⟨2, ![32771, 512]⟩
abbrev S32771x3 : Shape := ⟨2, ![32771, 3]⟩
abbrev S272x256 : Shape := ⟨2, ![272, 256]⟩
abbrev S1024x512 : Shape := ⟨2, ![1024, 512]⟩
abbrev S1024x3 : Shape := ⟨2, ![1024, 3]⟩
abbrev S8x256 : Shape := ⟨2, ![8, 256]⟩
abbrev S2048x512 : Shape := ⟨2, ![2048, 512]⟩
abbrev S2048x3 : Shape := ⟨2, ![2048, 3]⟩
abbrev S16x256 : Shape := ⟨2, ![16, 256]⟩
abbrev S8x512 : Shape := ⟨2, ![8, 512]⟩
abbrev S8x8 : Shape := ⟨2, ![8, 8]⟩
abbrev S1x128 : Shape := ⟨2, ![1, 128]⟩
abbrev S128x1 : Shape := ⟨2, ![128, 1]⟩
abbrev S128x512 : Shape := ⟨2, ![128, 512]⟩
abbrev S128x3 : Shape := ⟨2, ![128, 3]⟩
abbrev S128x8 : Shape := ⟨2, ![128, 8]⟩
abbrev S256x512 : Shape := ⟨2, ![256, 512]⟩
abbrev S256x1 : Shape := ⟨2, ![256, 1]⟩
abbrev S256x3 : Shape := ⟨2, ![256, 3]⟩
abbrev S256x2 : Shape := ⟨2, ![256, 2]⟩
abbrev S2048x2 : Shape := ⟨2, ![2048, 2]⟩
abbrev S2048x1 : Shape := ⟨2, ![2048, 1]⟩
abbrev S16x128 : Shape := ⟨2, ![16, 128]⟩
abbrev S272x128 : Shape := ⟨2, ![272, 128]⟩
abbrev S34816 : Shape := ⟨1, ![34816]⟩
abbrev S32771 : Shape := ⟨1, ![32771]⟩
abbrev S_ : Shape := ⟨0, ![]⟩

abbrev nBuf : Space → Nat
  | .hbm => 27
  | .vmem => 17
  | .smem => 0
  | _ => 0

abbrev bufTy : (tb : Table) → Fin (tcTables nBuf tb) → BufTy
  | .hbm, ⟨0, _⟩ => ⟨S16384x512, .f32⟩
  | .hbm, ⟨1, _⟩ => ⟨S16384, .i1⟩
  | .hbm, ⟨2, _⟩ => ⟨S16384x3, .f32⟩
  | .hbm, ⟨3, _⟩ => ⟨S16384, .i1⟩
  | .hbm, ⟨4, _⟩ => ⟨S512x512, .f32⟩
  | .hbm, ⟨5, _⟩ => ⟨S256x128, .f32⟩
  | .hbm, ⟨6, _⟩ => ⟨S256x8, .f32⟩
  | .hbm, ⟨7, _⟩ => ⟨S16384, .f32⟩
  | .hbm, ⟨8, _⟩ => ⟨S128x128, .f32⟩
  | .hbm, ⟨9, _⟩ => ⟨S16384, .f32⟩
  | .hbm, ⟨10, _⟩ => ⟨S128x128, .f32⟩
  | .hbm, ⟨11, _⟩ => ⟨S128x256, .f32⟩
  | .hbm, ⟨12, _⟩ => ⟨S32771x512, .f32⟩
  | .hbm, ⟨13, _⟩ => ⟨S32771x3, .f32⟩
  | .hbm, ⟨14, _⟩ => ⟨S272x256, .f32⟩
  | .hbm, ⟨15, _⟩ => ⟨S272x128, .f32⟩
  | .hbm, ⟨16, _⟩ => ⟨S34816, .f32⟩
  | .hbm, ⟨17, _⟩ => ⟨S32771, .f32⟩
  | .hbm, ⟨18, _⟩ => ⟨S272x128, .f32⟩
  | .hbm, ⟨19, _⟩ => ⟨S34816, .f32⟩
  | .hbm, ⟨20, _⟩ => ⟨S32771, .f32⟩
  | .hbm, ⟨21, _⟩ => ⟨S_, .f32⟩
  | .hbm, ⟨22, _⟩ => ⟨S32771, .f32⟩
  | .hbm, ⟨23, _⟩ => ⟨S32771, .i1⟩
  | .hbm, ⟨24, _⟩ => ⟨S_, .f32⟩
  | .hbm, ⟨25, _⟩ => ⟨S32771, .f32⟩
  | .hbm, ⟨26, _⟩ => ⟨S32771, .i1⟩
  | .local _ .vmem, ⟨0, _⟩ => ⟨S1024x512, .f32⟩
  | .local _ .vmem, ⟨1, _⟩ => ⟨S1024x512, .f32⟩
  | .local _ .vmem, ⟨2, _⟩ => ⟨S1024x3, .f32⟩
  | .local _ .vmem, ⟨3, _⟩ => ⟨S1024x3, .f32⟩
  | .local _ .vmem, ⟨4, _⟩ => ⟨S8x256, .f32⟩
  | .local _ .vmem, ⟨5, _⟩ => ⟨S8x256, .f32⟩
  | .local _ .vmem, ⟨6, _⟩ => ⟨S512x512, .f32⟩
  | .local _ .vmem, ⟨7, _⟩ => ⟨S256x128, .f32⟩
  | .local _ .vmem, ⟨8, _⟩ => ⟨S256x8, .f32⟩
  | .local _ .vmem, ⟨9, _⟩ => ⟨S2048x512, .f32⟩
  | .local _ .vmem, ⟨10, _⟩ => ⟨S2048x512, .f32⟩
  | .local _ .vmem, ⟨11, _⟩ => ⟨S2048x3, .f32⟩
  | .local _ .vmem, ⟨12, _⟩ => ⟨S2048x3, .f32⟩
  | .local _ .vmem, ⟨13, _⟩ => ⟨S16x256, .f32⟩
  | .local _ .vmem, ⟨14, _⟩ => ⟨S16x256, .f32⟩
  | .local _ .vmem, ⟨15, _⟩ => ⟨S8x512, .f32⟩
  | .local _ .vmem, ⟨16, _⟩ => ⟨S8x8, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16384x512 : Shape := ⟨2, ![16384, 512]⟩
abbrev S16384 : Shape := ⟨1, ![16384]⟩
abbrev S16384x3 : Shape := ⟨2, ![16384, 3]⟩
abbrev S512x512 : Shape := ⟨2, ![512, 512]⟩
abbrev S16384x1 : Shape := ⟨2, ![16384, 1]⟩
abbrev S_ : Shape := ⟨0, ![]⟩
abbrev S5 : Shape := ⟨1, ![5]⟩
abbrev S1x5 : Shape := ⟨2, ![1, 5]⟩
abbrev S16384x5 : Shape := ⟨2, ![16384, 5]⟩
abbrev S32771 : Shape := ⟨1, ![32771]⟩
abbrev S16384x5x1 : Shape := ⟨3, ![16384, 5, 1]⟩
abbrev S16384x1x3 : Shape := ⟨3, ![16384, 1, 3]⟩
abbrev S16384x5x3 : Shape := ⟨3, ![16384, 5, 3]⟩
abbrev S32771x3 : Shape := ⟨2, ![32771, 3]⟩
abbrev S32771x1 : Shape := ⟨2, ![32771, 1]⟩
abbrev S16384x1x512 : Shape := ⟨3, ![16384, 1, 512]⟩
abbrev S16384x5x512 : Shape := ⟨3, ![16384, 5, 512]⟩
abbrev S32771x512 : Shape := ⟨2, ![32771, 512]⟩

abbrev nBuf : Space → Nat
  | .hbm => 116
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384, .i1⟩
  | .hbm, ⟨2, _⟩ => ⟨S16384x3, .f32⟩
  | .hbm, ⟨3, _⟩ => ⟨S16384, .i1⟩
  | .hbm, ⟨4, _⟩ => ⟨S512x512, .f32⟩
  | .hbm, ⟨5, _⟩ => ⟨S16384, .i32⟩
  | .hbm, ⟨6, _⟩ => ⟨S16384x1, .i32⟩
  | .hbm, ⟨7, _⟩ => ⟨S_, .i32⟩
  | .hbm, ⟨8, _⟩ => ⟨S16384x1, .i32⟩
  | .hbm, ⟨9, _⟩ => ⟨S16384x1, .i32⟩
  | .hbm, ⟨10, _⟩ => ⟨S5, .i32⟩
  | .hbm, ⟨11, _⟩ => ⟨S1x5, .i32⟩
  | .hbm, ⟨12, _⟩ => ⟨S16384x5, .i32⟩
  | .hbm, ⟨13, _⟩ => ⟨S16384x5, .i32⟩
  | .hbm, ⟨14, _⟩ => ⟨S16384x5, .i32⟩
  | .hbm, ⟨15, _⟩ => ⟨S_, .i32⟩
  | .hbm, ⟨16, _⟩ => ⟨S16384x5, .i32⟩
  | .hbm, ⟨17, _⟩ => ⟨S16384x5, .i1⟩
  | .hbm, ⟨18, _⟩ => ⟨S_, .i32⟩
  | .hbm, ⟨19, _⟩ => ⟨S_, .i32⟩
  | .hbm, ⟨20, _⟩ => ⟨S16384x5, .i32⟩
  | .hbm, ⟨21, _⟩ => ⟨S16384x5, .i32⟩
  | .hbm, ⟨22, _⟩ => ⟨S16384x1, .i1⟩
  | .hbm, ⟨23, _⟩ => ⟨S_, .i32⟩
  | .hbm, ⟨24, _⟩ => ⟨S_, .i32⟩
  | .hbm, ⟨25, _⟩ => ⟨S16384x5, .i1⟩
  | .hbm, ⟨26, _⟩ => ⟨S16384x5, .i32⟩
  | .hbm, ⟨27, _⟩ => ⟨S16384x5, .i32⟩
  | .hbm, ⟨28, _⟩ => ⟨S16384x1, .i1⟩
  | .hbm, ⟨29, _⟩ => ⟨S_, .i32⟩
  | .hbm, ⟨30, _⟩ => ⟨S_, .i32⟩
  | .hbm, ⟨31, _⟩ => ⟨S16384x5, .i1⟩
  | .hbm, ⟨32, _⟩ => ⟨S16384x5, .i32⟩
  | .hbm, ⟨33, _⟩ => ⟨S16384x5, .i32⟩
  | .hbm, ⟨34, _⟩ => ⟨S_, .f32⟩
  | .hbm, ⟨35, _⟩ => ⟨S32771, .f32⟩
  | .hbm, ⟨36, _⟩ => ⟨S_, .i32⟩
  | .hbm, ⟨37, _⟩ => ⟨S16384x5, .i32⟩
  | .hbm, ⟨38, _⟩ => ⟨S16384x5, .i1⟩
  | .hbm, ⟨39, _⟩ => ⟨S_, .i32⟩
  | .hbm, ⟨40, _⟩ => ⟨S16384x5, .i32⟩
  | .hbm, ⟨41, _⟩ => ⟨S16384x5, .i32⟩
  | .hbm, ⟨42, _⟩ => ⟨S16384x5, .i32⟩
  | .hbm, ⟨43, _⟩ => ⟨S16384x5x1, .i32⟩
  | .hbm, ⟨44, _⟩ => ⟨S_, .f32⟩
  | .hbm, ⟨45, _⟩ => ⟨S16384x5, .f32⟩
  | .hbm, ⟨46, _⟩ => ⟨S32771, .f32⟩
  | .hbm, ⟨47, _⟩ => ⟨S_, .f32⟩
  | .hbm, ⟨48, _⟩ => ⟨S32771, .f32⟩
  | .hbm, ⟨49, _⟩ => ⟨S32771, .i1⟩
  | .hbm, ⟨50, _⟩ => ⟨S_, .f32⟩
  | .hbm, ⟨51, _⟩ => ⟨S32771, .f32⟩
  | .hbm, ⟨52, _⟩ => ⟨S32771, .i1⟩
  | .hbm, ⟨53, _⟩ => ⟨S_, .f32⟩
  | .hbm, ⟨54, _⟩ => ⟨S_, .f32⟩
  | .hbm, ⟨55, _⟩ => ⟨S32771, .f32⟩
  | .hbm, ⟨56, _⟩ => ⟨S32771, .f32⟩
  | .hbm, ⟨57, _⟩ => ⟨S_, .f32⟩
  | .hbm, ⟨58, _⟩ => ⟨S32771, .f32⟩
  | .hbm, ⟨59, _⟩ => ⟨S_, .i32⟩
  | .hbm, ⟨60, _⟩ => ⟨S16384x5, .i32⟩
  | .hbm, ⟨61, _⟩ => ⟨S16384x5, .i1⟩
  | .hbm, ⟨62, _⟩ => ⟨S_, .i32⟩
  | .hbm, ⟨63, _⟩ => ⟨S16384x5, .i32⟩
  | .hbm, ⟨64, _⟩ => ⟨S16384x5, .i32⟩
  | .hbm, ⟨65, _⟩ => ⟨S16384x5, .i32⟩
  | .hbm, ⟨66, _⟩ => ⟨S16384x5x1, .i32⟩
  | .hbm, ⟨67, _⟩ => ⟨S_, .f32⟩
  | .hbm, ⟨68, _⟩ => ⟨S16384x5, .f32⟩
  | .hbm, ⟨69, _⟩ => ⟨S32771, .f32⟩
  | .hbm, ⟨70, _⟩ => ⟨S_, .f32⟩
  | .hbm, ⟨71, _⟩ => ⟨S32771, .f32⟩
  | .hbm, ⟨72, _⟩ => ⟨S32771, .i1⟩
  | .hbm, ⟨73, _⟩ => ⟨S_, .f32⟩
  | .hbm, ⟨74, _⟩ => ⟨S32771, .f32⟩
  | .hbm, ⟨75, _⟩ => ⟨S32771, .i1⟩
  | .hbm, ⟨76, _⟩ => ⟨S_, .f32⟩
  | .hbm, ⟨77, _⟩ => ⟨S_, .f32⟩
  | .hbm, ⟨78, _⟩ => ⟨S32771, .f32⟩
  | .hbm, ⟨79, _⟩ => ⟨S32771, .f32⟩
  | .hbm, ⟨80, _⟩ => ⟨S16384x1x3, .f32⟩
  | .hbm, ⟨81, _⟩ => ⟨S16384x5x3, .f32⟩
  | .hbm, ⟨82, _⟩ => ⟨S_, .f32⟩
  | .hbm, ⟨83, _⟩ => ⟨S32771x3, .f32⟩
  | .hbm, ⟨84, _⟩ => ⟨S_, .i32⟩
  | .hbm, ⟨85, _⟩ => ⟨S16384x5, .i32⟩
  | .hbm, ⟨86, _⟩ => ⟨S16384x5, .i1⟩
  | .hbm, ⟨87, _⟩ => ⟨S_, .i32⟩
  | .hbm, ⟨88, _⟩ => ⟨S16384x5, .i32⟩
  | .hbm, ⟨89, _⟩ => ⟨S16384x5, .i32⟩
  | .hbm, ⟨90, _⟩ => ⟨S16384x5, .i32⟩
  | .hbm, ⟨91, _⟩ => ⟨S16384x5x1, .i32⟩
  | .hbm, ⟨92, _⟩ => ⟨S32771x3, .f32⟩
  | .hbm, ⟨93, _⟩ => ⟨S32771x1, .f32⟩
  | .hbm, ⟨94, _⟩ => ⟨S_, .f32⟩
  | .hbm, ⟨95, _⟩ => ⟨S32771x1, .f32⟩
  | .hbm, ⟨96, _⟩ => ⟨S32771x1, .f32⟩
  | .hbm, ⟨97, _⟩ => ⟨S32771x3, .f32⟩
  | .hbm, ⟨98, _⟩ => ⟨S32771x3, .f32⟩
  | .hbm, ⟨99, _⟩ => ⟨S16384x512, .f32⟩
  | .hbm, ⟨100, _⟩ => ⟨S16384x1x512, .f32⟩
  | .hbm, ⟨101, _⟩ => ⟨S16384x5x512, .f32⟩
  | .hbm, ⟨102, _⟩ => ⟨S_, .f32⟩
  | .hbm, ⟨103, _⟩ => ⟨S32771x512, .f32⟩
  | .hbm, ⟨104, _⟩ => ⟨S_, .i32⟩
  | .hbm, ⟨105, _⟩ => ⟨S16384x5, .i32⟩
  | .hbm, ⟨106, _⟩ => ⟨S16384x5, .i1⟩
  | .hbm, ⟨107, _⟩ => ⟨S_, .i32⟩
  | .hbm, ⟨108, _⟩ => ⟨S16384x5, .i32⟩
  | .hbm, ⟨109, _⟩ => ⟨S16384x5, .i32⟩
  | .hbm, ⟨110, _⟩ => ⟨S16384x5, .i32⟩
  | .hbm, ⟨111, _⟩ => ⟨S16384x5x1, .i32⟩
  | .hbm, ⟨112, _⟩ => ⟨S32771x512, .f32⟩
  | .hbm, ⟨113, _⟩ => ⟨S32771x1, .f32⟩
  | .hbm, ⟨114, _⟩ => ⟨S32771x512, .f32⟩
  | .hbm, ⟨115, _⟩ => ⟨S32771x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_c_5 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_6 : Ref sig .tc := ⟨.hbm, 44, rfl⟩
abbrev main_v23 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_cst_8 : Ref sig .tc := ⟨.hbm, 50, rfl⟩
abbrev main_v27 : Ref sig .tc := ⟨.hbm, 51, rfl⟩
abbrev main_v28 : Ref sig .tc := ⟨.hbm, 52, rfl⟩
abbrev main_cst_9 : Ref sig .tc := ⟨.hbm, 53, rfl⟩
abbrev main_call3_v0 : Ref sig .tc := ⟨.hbm, 54, rfl⟩
abbrev main_call3_v1 : Ref sig .tc := ⟨.hbm, 55, rfl⟩
abbrev main_v29 : Ref sig .tc := ⟨.hbm, 56, rfl⟩
abbrev main_cst_10 : Ref sig .tc := ⟨.hbm, 57, rfl⟩
abbrev main_v30 : Ref sig .tc := ⟨.hbm, 58, rfl⟩
abbrev main_c_11 : Ref sig .tc := ⟨.hbm, 59, rfl⟩
abbrev main_v31 : Ref sig .tc := ⟨.hbm, 60, rfl⟩
abbrev main_v32 : Ref sig .tc := ⟨.hbm, 61, rfl⟩
abbrev main_c_12 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_cst_14 : Ref sig .tc := ⟨.hbm, 70, rfl⟩
abbrev main_v39 : Ref sig .tc := ⟨.hbm, 71, rfl⟩
abbrev main_v40 : Ref sig .tc := ⟨.hbm, 72, rfl⟩
abbrev main_cst_15 : Ref sig .tc := ⟨.hbm, 73, rfl⟩
abbrev main_v41 : Ref sig .tc := ⟨.hbm, 74, rfl⟩
abbrev main_v42 : Ref sig .tc := ⟨.hbm, 75, rfl⟩
abbrev main_cst_16 : Ref sig .tc := ⟨.hbm, 76, rfl⟩
abbrev main_call4_v0 : Ref sig .tc := ⟨.hbm, 77, rfl⟩
abbrev main_call4_v1 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_17 : Ref sig .tc := ⟨.hbm, 82, rfl⟩
abbrev main_v46 : Ref sig .tc := ⟨.hbm, 83, rfl⟩
abbrev main_c_18 : Ref sig .tc := ⟨.hbm, 84, rfl⟩
abbrev main_v47 : Ref sig .tc := ⟨.hbm, 85, rfl⟩
abbrev main_v48 : Ref sig .tc := ⟨.hbm, 86, rfl⟩
abbrev main_c_19 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_20 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_21 : Ref sig .tc := ⟨.hbm, 102, rfl⟩
abbrev main_v62 : Ref sig .tc := ⟨.hbm, 103, rfl⟩
abbrev main_c_22 : Ref sig .tc := ⟨.hbm, 104, rfl⟩
abbrev main_v63 : Ref sig .tc := ⟨.hbm, 105, rfl⟩
abbrev main_v64 : Ref sig .tc := ⟨.hbm, 106, rfl⟩
abbrev main_c_23 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩

abbrev nD : Nat := 1
abbrev τ : Topo := Topo.v7x

variable {F : FTy → Type} [FloatOps F]
-- ==== Proof.Words.lean ====
/-
  The words the kernel body computes, one family per kind of value over the eight sub-blocks of a
  grid point: the masked product rows, the masked coordinate rows, and from a sub-block's rows and
  the last eight rows before it the three kinds of output rows.
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.Proof.Upsample

open Cert.KernelIdeal Cert.KernelIdeal.Gen
open Idealize.ShloMosaic

variable {F : FTy → Type} [FloatOps F]

/-! ## The rows of one sub-block -/

/-- The last eight rows of a sub-block's masked product. -/
def lastA (a : FVec F S128x512 .f32) : FVec F S8x512 .f32 :=
  extractStridedSlice S8x512 ![120, 0] a slices_S128x512_o120_0_S8x512

/-- The last eight rows of a sub-block's masked coordinates and masks. -/
def lastX (x : FVec F S128x8 .f32) : FVec F S8x8 .f32 :=
  extractStridedSlice S8x8 ![120, 0] x slices_S128x8_o120_0_S8x8

/-- The features' 256 output rows of a sub-block. -/
abbrev outP (u : Vec F S256x128 .f32) (v : Vec F S256x8 .f32) (pa : FVec F S8x512 .f32) (px : FVec F S8x8 .f32)
    (a : FVec F S128x512 .f32) (x : FVec F S128x8 .f32) : FVec F S256x512 .f32 := k0_pay34 u v pa px a x

/-- The coordinates' 256 output rows of a sub-block. -/
def coutP (u : Vec F S256x128 .f32) (v : Vec F S256x8 .f32) (px : FVec F S8x8 .f32) (x : FVec F S128x8 .f32) :
    FVec F S256x3 .f32 := k0_pay38 (k0_pay35 u v px x) (k0_pay36 u v px x) k0_pay37

/-- The two counts' 256 output rows of a sub-block. -/
def cntP (u : Vec F S256x128 .f32) (v : Vec F S256x8 .f32) (px : FVec F S8x8 .f32) (x : FVec F S128x8 .f32) :
    FVec F S256x2 .f32 := k0_pay39 (k0_pay33 u v px x)

/-- The counts of eight sub-blocks, one after another. -/
def countsP (c : Fin 8 → FVec F S256x2 .f32) : FVec F S2048x2 .f32 :=
  concatenate S2048x2 0 [⟨S256x2, c 0⟩, ⟨S256x2, c 1⟩, ⟨S256x2, c 2⟩, ⟨S256x2, c 3⟩, ⟨S256x2, c 4⟩, ⟨S256x2, c 5⟩, ⟨S256x2, c 6⟩, ⟨S256x2, c 7⟩]
    concatenates_S256x2_S256x2_S256x2_S256x2_S256x2_S256x2_S256x2_S256x2_S2048x2_d0

/-- The first column of the counts, packed 128 to a row. -/
def packC (c : FVec F S2048x2 .f32) : FVec F S16x128 .f32 :=
  shapeCast S16x128 (extractStridedSlice S2048x1 ![0, 0] c slices_S2048x2_o0_0_S2048x1) shapeCasts_S2048x1_S16x128

/-- The second column of the counts, packed 128 to a row. -/
def packI (c : FVec F S2048x2 .f32) : FVec F S16x128 .f32 :=
  shapeCast S16x128 (extractStridedSlice S2048x1 ![0, 1] c slices_S2048x2_o0_1_S2048x1) shapeCasts_S2048x1_S16x128

section Same

variable (i : grid0.Coords) (w : Vec F S512x512 .f32) (b : BitVec 1) (mc mi : Vec F S1x128 .f32) (xk : Vec F S128x512 .f32) (ck : Vec F S128x3 .f32)
  (u : Vec F S256x128 .f32) (v : Vec F S256x8 .f32) (a' a : FVec F S128x512 .f32) (x' x : FVec F S128x8 .f32) (px : FVec F S8x8 .f32)

/-- Whether the grid point has rows of its own. -/
abbrev live (i : grid0.Coords) : BitVec 1 := Scalar.cmpi .slt (BitVec.ofNat 32 (i 0).val) 16#32

/-- A sub-block's masked product, as the printed body writes it. -/
theorem a0 : k0_pay5 i w mi xk = k0_pay8 w (live i) mi xk := rfl

/-- A sub-block's masked product, as the printed body writes it. -/
theorem a2 : k0_pay12 w b mi xk = k0_pay8 w b mi xk := rfl

/-- A sub-block's masked product, as the printed body writes it. -/
theorem a3 : k0_pay16 w b mi xk = k0_pay8 w b mi xk := rfl

/-- A sub-block's masked product, as the printed body writes it. -/
theorem a4 : k0_pay20 w b mi xk = k0_pay8 w b mi xk := rfl

/-- A sub-block's masked product, as the printed body writes it. -/
theorem a5 : k0_pay23 w b mi xk = k0_pay8 w b mi xk := rfl

/-- A sub-block's masked product, as the printed body writes it. -/
theorem a6 : k0_pay28 b (k0_pay26 w mi xk) (Scalar.ofBits .f32 0x00000000#32) = k0_pay8 w b mi xk := rfl

/-- A sub-block's masked product, as the printed body writes it. -/
theorem a7 : k0_pay31 w b mi xk = k0_pay8 w b mi xk := rfl

/-- A sub-block's masked coordinates and masks, as the printed body writes them. -/
theorem x0 : k0_pay6 i mc mi ck = k0_pay9 (live i) mc mi ck := rfl

/-- A sub-block's masked coordinates and masks, as the printed body writes them. -/
theorem x2 : k0_pay14 b (k0_pay11 mc mi ck) k0_pay13 = k0_pay9 b mc mi ck := rfl

/-- A sub-block's masked coordinates and masks, as the printed body writes them. -/
theorem x3 : k0_pay17 b mc mi ck = k0_pay9 b mc mi ck := rfl

/-- A sub-block's masked coordinates and masks, as the printed body writes them. -/
theorem x4 : k0_pay21 b (k0_pay19 mc mi ck) = k0_pay9 b mc mi ck := rfl

/-- A sub-block's masked coordinates and masks, as the printed body writes them. -/
theorem x5 : k0_pay24 b mc mi ck = k0_pay9 b mc mi ck := rfl

/-- A sub-block's masked coordinates and masks, as the printed body writes them. -/
theorem x6 : k0_pay29 b (k0_pay27 mc mi ck) = k0_pay9 b mc mi ck := rfl

/-- A sub-block's masked coordinates and masks, as the printed body writes them. -/
theorem x7 : k0_pay32 b mc mi ck = k0_pay9 b mc mi ck := rfl

/-- A sub-block's feature rows, as the printed body writes them. -/
theorem o1 : (k0_pay41 u v a' x' a x : FVec F S256x512 .f32) = outP u v (lastA a') (lastX x') a x := rfl

/-- A sub-block's feature rows, as the printed body writes them. -/
theorem o2 : (k0_pay46 (k0_pay44 u v a' a) (k0_pay45 u v x' x) : FVec F S256x512 .f32) = outP u v (lastA a') (lastX x') a x := rfl

/-- A sub-block's feature rows, as the printed body writes them. -/
theorem o3 : (k0_pay50 u v a' x' a x : FVec F S256x512 .f32) = outP u v (lastA a') (lastX x') a x := rfl

/-- A sub-block's feature rows, as the printed body writes them. -/
theorem o4 : (k0_pay54 u v a' x' a x : FVec F S256x512 .f32) = outP u v (lastA a') (lastX x') a x := rfl

/-- A sub-block's feature rows, as the printed body writes them. -/
theorem o5 : (k0_pay58 u v a' x' a x : FVec F S256x512 .f32) = outP u v (lastA a') (lastX x') a x := rfl

/-- A sub-block's feature rows, as the printed body writes them. -/
theorem o6 : (k0_pay62 u v a' x' a x : FVec F S256x512 .f32) = outP u v (lastA a') (lastX x') a x := rfl

/-- A sub-block's coordinate rows, as the printed body writes them. -/
theorem c0 : k0_pay38 (k0_pay35 u v px x) (k0_pay36 u v px x) k0_pay37 = coutP u v px x := rfl

/-- A sub-block's coordinate rows, as the printed body writes them. -/
theorem c1 : k0_pay42 u v x' x = coutP u v (lastX x') x := rfl

/-- A sub-block's coordinate rows, as the printed body writes them. -/
theorem c2 : k0_pay47 (k0_pay45 u v x' x) = coutP u v (lastX x') x := rfl

/-- A sub-block's coordinate rows, as the printed body writes them. -/
theorem c3 : k0_pay51 u v x' x = coutP u v (lastX x') x := rfl

/-- A sub-block's coordinate rows, as the printed body writes them. -/
theorem c4 : k0_pay55 u v x' x = coutP u v (lastX x') x := rfl

/-- A sub-block's coordinate rows, as the printed body writes them. -/
theorem c5 : k0_pay59 (k0_pay57 u v x' x) = coutP u v (lastX x') x := rfl

/-- A sub-block's coordinate rows, as the printed body writes them. -/
theorem c6 : k0_pay63 u v x' x = coutP u v (lastX x') x := rfl

/-- A sub-block's counts, as the printed body writes them. -/
theorem n0 : k0_pay39 (k0_pay33 u v px x) = cntP u v px x := rfl

/-- A sub-block's counts, as the printed body writes them. -/
theorem n1 : k0_pay43 u v x' x = cntP u v (lastX x') x := rfl

/-- A sub-block's counts, as the printed body writes them. -/
theorem n2 : k0_pay48 (k0_pay45 u v x' x) = cntP u v (lastX x') x := rfl

/-- A sub-block's counts, as the printed body writes them. -/
theorem n3 : k0_pay52 (k0_pay49 u v x' x) = cntP u v (lastX x') x := rfl

/-- A sub-block's counts, as the printed body writes them. -/
theorem n4 : k0_pay56 u v x' x = cntP u v (lastX x') x := rfl

/-- A sub-block's counts, as the printed body writes them. -/
theorem n5 : k0_pay60 (k0_pay57 u v x' x) = cntP u v (lastX x') x := rfl

/-- A sub-block's counts, as the printed body writes them. -/
theorem n6 : k0_pay64 u v x' x = cntP u v (lastX x') x := rfl

/-- The printed last-rows slice of the seventh sub-block. -/
theorem l7 : k0_pay65 x = lastX x := rfl

/-- The last sub-block's feature rows, as the printed body writes them. -/
theorem o7 : k0_pay68 u v x px (k0_pay66 u v a' a) = outP u v (lastA a') px a x := rfl

/-- The last sub-block's coordinate rows, as the printed body writes them. -/
theorem c7 : k0_pay69 u v x px = coutP u v px x := rfl

/-- The packed coordinate counts, as the printed body writes them. -/
theorem pc (y0 y1 y2 y3 y4 y5 y6 : FVec F S256x2 .f32) :
    k0_pay71 u v x y0 y1 y2 y3 y4 y5 y6 px = packC (countsP ![y0, y1, y2, y3, y4, y5, y6, cntP u v px x]) := rfl

/-- The packed feature counts, as the printed body writes them. -/
theorem pi (y0 y1 y2 y3 y4 y5 y6 : FVec F S256x2 .f32) :
    k0_pay72 u v x y0 y1 y2 y3 y4 y5 y6 px = packI (countsP ![y0, y1, y2, y3, y4, y5, y6, cntP u v px x]) := rfl

/-- What the body leaves in the product carry. -/
theorem ka : k0_pay73 a = lastA a := shapeCast_self _ _

/-- What the body leaves in the coordinate carry. -/
theorem kx : k0_pay1 (k0_pay74 x) = lastX x := shapeCast_self _ _

end Same

end Cert.Proof.Upsample

end
-- ==== Proof.Body.lean ====
/-
  What the kernel body leaves at one grid point, from the blocks it is handed and the two carries, and the body's triple:
  the outputs and the carries end at these contents, whatever they held.
-/
module

public import proofs.«01_k».proof.Proof.Words

@[expose] public section

set_option maxRecDepth 16384

noncomputable section

namespace Cert.Proof.Upsample

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The boxes of a sub-block -/

/-- The coordinates' mask row of sub-block `k`. -/
abbrev boxC (k : Fin 8) : Rect S8x256 := Rect.unit ![k.val, 0] S1x128.size (by revert k; decide)
/-- The features' mask row of sub-block `k`. -/
abbrev boxI (k : Fin 8) : Rect S8x256 := Rect.unit ![k.val, 128] S1x128.size (by revert k; decide)
/-- The feature rows of sub-block `k`. -/
abbrev boxX (k : Fin 8) : Rect S1024x512 := Rect.unit ![128 * k.val, 0] S128x512.size (by revert k; decide)
/-- The coordinate rows of sub-block `k`. -/
abbrev boxR (k : Fin 8) : Rect S1024x3 := Rect.unit ![128 * k.val, 0] S128x3.size (by revert k; decide)
/-- The output's feature rows of sub-block `k`. -/
abbrev boxO (k : Fin 8) : Rect S2048x512 := Rect.unit ![256 * k.val, 0] S256x512.size (by revert k; decide)
/-- The output's coordinate rows of sub-block `k`. -/
abbrev boxQ (k : Fin 8) : Rect S2048x3 := Rect.unit ![256 * k.val, 0] S256x3.size (by revert k; decide)
/-- The output's two halves of packed counts. -/
abbrev boxN0 : Rect S16x256 := Rect.unit ![0, 0] S16x128.size inb_S16x256_S16x128_0_0
abbrev boxN1 : Rect S16x256 := Rect.unit ![0, 128] S16x128.size inb_S16x256_S16x128_0_128

/-! ## The values of a grid point -/

section Values

variable (i : grid0.Coords) (x0 : Vec F S1024x512 .f32) (x1 : Vec F S1024x3 .f32) (x2 : Vec F S8x256 .f32)
  (x3 : Vec F S512x512 .f32) (x4 : Vec F S256x128 .f32) (x5 : Vec F S256x8 .f32) (s0 : Vec F S8x512 .f32) (s1 : Vec F S8x8 .f32)

/-- Sub-block `k`'s masked product. -/
def A (k : Fin 8) : FVec F S128x512 .f32 := k0_pay8 x3 (live i) (View.ld x2 (boxI k)) (View.ld x0 (boxX k))

/-- Sub-block `k`'s masked coordinates and masks. -/
def X (k : Fin 8) : FVec F S128x8 .f32 := k0_pay9 (live i) (View.ld x2 (boxC k)) (View.ld x2 (boxI k)) (View.ld x1 (boxR k))

/-- The eight rows before sub-block `k`'s product. -/
def PA (k : Fin 8) : FVec F S8x512 .f32 :=
  if h : k.val = 0 then k0_pay2 i s0 else lastA (A i x0 x2 x3 ⟨k.val - 1, by omega⟩)

/-- The eight rows before sub-block `k`'s coordinates and masks. -/
def PX (k : Fin 8) : FVec F S8x8 .f32 :=
  if h : k.val = 0 then k0_pay3 i s1 else lastX (X i x1 x2 ⟨k.val - 1, by omega⟩)

/-- Sub-block `k`'s feature rows. -/
def outB (k : Fin 8) : FVec F S256x512 .f32 :=
  outP x4 x5 (PA i x0 x2 x3 s0 k) (PX i x1 x2 s1 k) (A i x0 x2 x3 k) (X i x1 x2 k)

/-- Sub-block `k`'s coordinate rows. -/
def coutB (k : Fin 8) : FVec F S256x3 .f32 := coutP x4 x5 (PX i x1 x2 s1 k) (X i x1 x2 k)

/-- Sub-block `k`'s counts. -/
def cntB (k : Fin 8) : FVec F S256x2 .f32 := cntP x4 x5 (PX i x1 x2 s1 k) (X i x1 x2 k)

/-- The features' output block. -/
def out6 : Vec F S2048x512 .f32 :=
  View.canon [⟨boxO 7, outB i x0 x1 x2 x3 x4 x5 s0 s1 7⟩, ⟨boxO 6, outB i x0 x1 x2 x3 x4 x5 s0 s1 6⟩,
    ⟨boxO 5, outB i x0 x1 x2 x3 x4 x5 s0 s1 5⟩, ⟨boxO 4, outB i x0 x1 x2 x3 x4 x5 s0 s1 4⟩,
    ⟨boxO 3, outB i x0 x1 x2 x3 x4 x5 s0 s1 3⟩, ⟨boxO 2, outB i x0 x1 x2 x3 x4 x5 s0 s1 2⟩,
    ⟨boxO 1, outB i x0 x1 x2 x3 x4 x5 s0 s1 1⟩, ⟨boxO 0, outB i x0 x1 x2 x3 x4 x5 s0 s1 0⟩]

/-- The coordinates' output block. -/
def out7 : Vec F S2048x3 .f32 :=
  View.canon [⟨boxQ 7, coutB i x1 x2 x4 x5 s1 7⟩, ⟨boxQ 6, coutB i x1 x2 x4 x5 s1 6⟩, ⟨boxQ 5, coutB i x1 x2 x4 x5 s1 5⟩,
    ⟨boxQ 4, coutB i x1 x2 x4 x5 s1 4⟩, ⟨boxQ 3, coutB i x1 x2 x4 x5 s1 3⟩, ⟨boxQ 2, coutB i x1 x2 x4 x5 s1 2⟩,
    ⟨boxQ 1, coutB i x1 x2 x4 x5 s1 1⟩, ⟨boxQ 0, coutB i x1 x2 x4 x5 s1 0⟩]

/-- The counts' output block. -/
def out8 : Vec F S16x256 .f32 :=
  View.canon [⟨boxN1, packI (countsP (cntB i x1 x2 x4 x5 s1))⟩, ⟨boxN0, packC (countsP (cntB i x1 x2 x4 x5 s1))⟩]

end Values

/-- The eight row blocks cover the features' output block. -/
theorem cover6 (p0 p1 p2 p3 p4 p5 p6 p7 : Vec F S256x512 .f32) (y : S2048x512.Idx) :
    ∃ pc ∈ ([⟨boxO 7, p7⟩, ⟨boxO 6, p6⟩, ⟨boxO 5, p5⟩, ⟨boxO 4, p4⟩, ⟨boxO 3, p3⟩, ⟨boxO 2, p2⟩, ⟨boxO 1, p1⟩, ⟨boxO 0, p0⟩] :
      List (View.Piece (Elt F) S2048x512 .f32)), y ∈ pc.1.set :=
  View.cover_of_tiled [⟨boxO 7, p7⟩, ⟨boxO 6, p6⟩, ⟨boxO 5, p5⟩, ⟨boxO 4, p4⟩, ⟨boxO 3, p3⟩, ⟨boxO 2, p2⟩, ⟨boxO 1, p1⟩, ⟨boxO 0, p0⟩]
    S256x512.size (by rfl) y

/-- The eight row blocks cover the coordinates' output block. -/
theorem cover7 (p0 p1 p2 p3 p4 p5 p6 p7 : Vec F S256x3 .f32) (y : S2048x3.Idx) :
    ∃ pc ∈ ([⟨boxQ 7, p7⟩, ⟨boxQ 6, p6⟩, ⟨boxQ 5, p5⟩, ⟨boxQ 4, p4⟩, ⟨boxQ 3, p3⟩, ⟨boxQ 2, p2⟩, ⟨boxQ 1, p1⟩, ⟨boxQ 0, p0⟩] :
      List (View.Piece (Elt F) S2048x3 .f32)), y ∈ pc.1.set :=
  View.cover_of_tiled [⟨boxQ 7, p7⟩, ⟨boxQ 6, p6⟩, ⟨boxQ 5, p5⟩, ⟨boxQ 4, p4⟩, ⟨boxQ 3, p3⟩, ⟨boxQ 2, p2⟩, ⟨boxQ 1, p1⟩, ⟨boxQ 0, p0⟩]
    S256x3.size (by rfl) y

/-- The two halves cover the counts' output block. -/
theorem cover8 (p0 p1 : Vec F S16x128 .f32) (y : S16x256.Idx) :
    ∃ pc ∈ ([⟨boxN1, p1⟩, ⟨boxN0, p0⟩] : List (View.Piece (Elt F) S16x256 .f32)), y ∈ pc.1.set :=
  View.cover_of_tiled [⟨boxN1, p1⟩, ⟨boxN0, p0⟩] S16x128.size (by rfl) y

set_option maxHeartbeats 4000000 in
/-- The body's triple: from the input blocks and the carries at given contents, the outputs at anything, it ends with the
    inputs as they were, the outputs at `out6`, `out7`, `out8` and the carries at the last sub-block's last rows. -/
theorem body_run (c : Dev nD) (i : grid0.Coords) (arg1 : Memref sig .tc .vmem S1024x512 .f32) (harg1 : arg1.IsWhole) (arg2 : Memref sig .tc .vmem S1024x3 .f32) (harg2 : arg2.IsWhole) (arg3 : Memref sig .tc .vmem S8x256 .f32) (harg3 : arg3.IsWhole) (arg4 : Memref sig .tc .vmem S512x512 .f32) (harg4 : arg4.IsWhole) (arg5 : Memref sig .tc .vmem S256x128 .f32) (harg5 : arg5.IsWhole) (arg6 : Memref sig .tc .vmem S256x8 .f32) (harg6 : arg6.IsWhole) (arg7 : Memref sig .tc .vmem S2048x512 .f32) (harg7 : arg7.IsWhole) (arg8 : Memref sig .tc .vmem S2048x3 .f32) (harg8 : arg8.IsWhole) (arg9 : Memref sig .tc .vmem S16x256 .f32) (harg9 : arg9.IsWhole) (arg10 : Memref sig .tc .vmem S8x512 .f32) (harg10 : arg10.IsWhole) (arg11 : Memref sig .tc .vmem S8x8 .f32) (harg11 : arg11.IsWhole)
    (x0 : Vec F S1024x512 .f32) (x1 : Vec F S1024x3 .f32) (x2 : Vec F S8x256 .f32) (x3 : Vec F S512x512 .f32) (x4 : Vec F S256x128 .f32) (x5 : Vec F S256x8 .f32) (s0 : Vec F S8x512 .f32) (s1 : Vec F S8x8 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s0 ∗ owns (c : Thread nD τ) arg11 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out6 i x0 x1 x2 x3 x4 x5 s0 s1) ∗ owns (c : Thread nD τ) arg8 fullShare (out7 i x1 x2 x4 x5 s1) ∗ owns (c : Thread nD τ) arg9 fullShare (out8 i x1 x2 x4 x5 s1)
            ∗ owns (c : Thread nD τ) arg10 fullShare (lastA (A i x0 x2 x3 7)) ∗ owns (c : Thread nD τ) arg11 fullShare (lastX (X i x1 x2 7))) -∗ K ⟨⟩))
      ⊢ wp frame (wpE (defs₀ (F := F)) Variants.none c none) E (cc0__upsample_body i arg1 harg1 arg2 harg2 arg3 harg3 arg4 harg4 arg5 harg5 arg6 harg6 arg7 harg7 arg8 harg8 arg9 harg9 arg10 harg10 arg11 harg11) K := by
  simp only [cc0__upsample_body_eq_skeleton]; unfold cc0__upsample_body_skel
  simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hs0, HS0⟩, ⟨%fs1, %hs1, HS1⟩, Hk⟩
  subst hf0 hf1 hf2 hf3 hf4 hf5 hs0 hs1
  sl_exec
  sl_step
  have e3 : View.readAt (Elt F) arg4.view (Rect.unit ![0, 0] S512x512.size inb_S512x512_S512x512_0_0).toLoadRect f3 = View.read (Elt F) arg4.view f3 :=
    View.ld_unit_zero (by decide) _ _
  have e4 : View.readAt (Elt F) arg5.view (Rect.unit ![0, 0] S256x128.size inb_S256x128_S256x128_0_0).toLoadRect f4 = View.read (Elt F) arg5.view f4 :=
    View.ld_unit_zero (by decide) _ _
  have e5 : View.readAt (Elt F) arg6.view (Rect.unit ![0, 0] S256x8.size inb_S256x8_S256x8_0_0).toLoadRect f5 = View.read (Elt F) arg6.view f5 :=
    View.ld_unit_zero (by decide) _ _
  have es0 : View.readAt (Elt F) arg10.view (Rect.unit ![0, 0] S8x512.size inb_S8x512_S8x512_0_0).toLoadRect fs0 = View.read (Elt F) arg10.view fs0 :=
    View.ld_unit_zero (by decide) _ _
  have es1 : View.readAt (Elt F) arg11.view (Rect.unit ![0, 0] S8x8.size inb_S8x8_S8x8_0_0).toLoadRect fs1 = View.read (Elt F) arg11.view fs1 :=
    View.ld_unit_zero (by decide) _ _
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr; swap; · iexact H6
    ipureintro
    refine (View.read_writes_eq_canon _ _ _ (cover6 _ _ _ _ _ _ _ _)).trans ?_
    sl_unfold_run_names
    simp only [e3, e4, e5, es0, es1]
    rfl
  isplitl [H7]
  · iexists _; isplitr; swap; · iexact H7
    ipureintro
    refine (View.read_writes_eq_canon _ _ _ (cover7 _ _ _ _ _ _ _ _)).trans ?_
    sl_unfold_run_names
    simp only [e4, e5, es1]
    rfl
  isplitl [H8]
  · iexists _; isplitr; swap; · iexact H8
    ipureintro
    refine (View.read_writes_eq_canon _ _ _ (cover8 _ _)).trans ?_
    sl_unfold_run_names
    simp only [e4, e5, es1]
    rfl
  isplitl [HS0]
  · iexists _; isplitr; swap; · iexact HS0
    ipureintro
    refine (View.read_writes_eq_canon _ _ _ (View.cover_of_tiled _ S8x512.size (by rfl))).trans ?_
    refine (View.canon_unit_zero (by decide) _ _).trans ?_
    sl_unfold_run_names
    simp only [e3]
    exact ka _
  iexists _; isplitr; swap; · iexact HS1
  ipureintro
  refine (View.read_writes_eq_canon _ _ _ (View.cover_of_tiled _ S8x8.size (by rfl))).trans ?_
  refine (View.canon_unit_zero (by decide) _ _).trans ?_
  sl_unfold_run_names
  exact kx _

end Cert.Proof.Upsample

end
-- ==== Proof.Frame.lean ====
/-
  The launch: the proof data (each output block at what the body leaves, the carries tracked from point to point), the body
  obligation, the run and the frame.
-/
module

public import proofs.«01_k».proof.Proof.Body
public import Idealize.ShloMosaic.Lib.Claim

@[expose] public section

set_option maxRecDepth 16384

noncomputable section

namespace Cert.Proof.Upsample

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The carries -/

/-- The product carry point `t` leaves: the last eight rows of its last sub-block. -/
def carryA (c : Dev nD) (t : Fin cfg0.N) : Vec F S8x512 .f32 :=
  lastA (A (grid0.coords t) (iblk m c 0 t) (iblk m c 2 t) (iblk m c 3 t) 7)

/-- The coordinate carry point `t` leaves. -/
def carryX (c : Dev nD) (t : Fin cfg0.N) : Vec F S8x8 .f32 :=
  lastX (X (grid0.coords t) (iblk m c 1 t) (iblk m c 2 t) 7)

/-- The product carry as point `t` finds it; the first point reads nothing of it. -/
def heldA (c : Dev nD) (t : Fin cfg0.N) : Vec F S8x512 .f32 :=
  if h : t.val = 0 then fun _ => Scalar.ofBits .f32 0x00000000#32 else carryA m c ⟨t.val - 1, by omega⟩

/-- The coordinate carry as point `t` finds it; the first point reads nothing of it. -/
def heldX (c : Dev nD) (t : Fin cfg0.N) : Vec F S8x8 .f32 :=
  if h : t.val = 0 then fun _ => Scalar.ofBits .f32 0x00000000#32 else carryX m c ⟨t.val - 1, by omega⟩

/-- The carries before step `t` hold what the step before left. -/
def Held (c : Dev nD) (t : Fin (cfg0.N + 1)) (s0 : Vec F S8x512 .f32) (s1 : Vec F S8x8 .f32) : Prop :=
  ∀ u : Fin cfg0.N, u.val + 1 = t.val → s0 = carryA m c u ∧ s1 = carryX m c u

/-- The first point selects zeros for the product carry. -/
theorem pay2_first (i : grid0.Coords) (h : (i 0).val = 0) (s s' : Vec F S8x512 .f32) : k0_pay2 i s = k0_pay2 i s' := by
  simp only [k0_pay2, h]; rfl

/-- The first point selects zeros for the coordinate carry. -/
theorem pay3_first (i : grid0.Coords) (h : (i 0).val = 0) (s s' : Vec F S8x8 .f32) : k0_pay3 i s = k0_pay3 i s' := by
  simp only [k0_pay3, h]; rfl

/-- The one coordinate of a point is its number. -/
theorem coord_val : ∀ t : Fin grid0.N, (grid0.coords t 0).val = t.val := by decide +kernel

/-- The rows before a sub-block are the same whatever holds of the carry that `Held` allows. -/
theorem PA_held (c : Dev nD) (t : Fin cfg0.N) (s0 : Vec F S8x512 .f32) (s1 : Vec F S8x8 .f32) (h : Held m c t.castSucc s0 s1)
    (x0 : Vec F S1024x512 .f32) (x2 : Vec F S8x256 .f32) (x3 : Vec F S512x512 .f32) (k : Fin 8) :
    PA (grid0.coords t) x0 x2 x3 s0 k = PA (grid0.coords t) x0 x2 x3 (heldA m c t) k := by
  by_cases ht : t.val = 0
  · unfold PA; rw [pay2_first (grid0.coords t) ((coord_val t).trans ht) s0 (heldA m c t)]
  · rw [(h ⟨t.val - 1, by omega⟩ (show t.val - 1 + 1 = t.val by omega)).1, heldA, dif_neg ht]

/-- The coordinates' rows before a sub-block likewise. -/
theorem PX_held (c : Dev nD) (t : Fin cfg0.N) (s0 : Vec F S8x512 .f32) (s1 : Vec F S8x8 .f32) (h : Held m c t.castSucc s0 s1)
    (x1 : Vec F S1024x3 .f32) (x2 : Vec F S8x256 .f32) (k : Fin 8) :
    PX (grid0.coords t) x1 x2 s1 k = PX (grid0.coords t) x1 x2 (heldX m c t) k := by
  by_cases ht : t.val = 0
  · unfold PX; rw [pay3_first (grid0.coords t) ((coord_val t).trans ht) s1 (heldX m c t)]
  · rw [(h ⟨t.val - 1, by omega⟩ (show t.val - 1 + 1 = t.val by omega)).2, heldX, dif_neg ht]

/-! ## The output blocks of a point -/

/-- The features' block point `t` leaves. -/
def val6 (c : Dev nD) (t : Fin cfg0.N) : Vec F S2048x512 .f32 :=
  out6 (grid0.coords t) (iblk m c 0 t) (iblk m c 1 t) (iblk m c 2 t) (iblk m c 3 t) (iblk m c 4 t) (iblk m c 5 t) (heldA m c t) (heldX m c t)

/-- The coordinates' block point `t` leaves. -/
def val7 (c : Dev nD) (t : Fin cfg0.N) : Vec F S2048x3 .f32 :=
  out7 (grid0.coords t) (iblk m c 1 t) (iblk m c 2 t) (iblk m c 4 t) (iblk m c 5 t) (heldX m c t)

/-- The counts' block point `t` leaves. -/
def val8 (c : Dev nD) (t : Fin cfg0.N) : Vec F S16x256 .f32 :=
  out8 (grid0.coords t) (iblk m c 1 t) (iblk m c 2 t) (iblk m c 4 t) (iblk m c 5 t) (heldX m c t)

theorem out6_held (c : Dev nD) (t : Fin cfg0.N) (s0 : Vec F S8x512 .f32) (s1 : Vec F S8x8 .f32) (h : Held m c t.castSucc s0 s1) :
    out6 (grid0.coords t) (iblk m c 0 t) (iblk m c 1 t) (iblk m c 2 t) (iblk m c 3 t) (iblk m c 4 t) (iblk m c 5 t) s0 s1 = val6 m c t := by
  simp only [val6, out6, outB, PA_held m c t s0 s1 h, PX_held m c t s0 s1 h]

theorem out7_held (c : Dev nD) (t : Fin cfg0.N) (s0 : Vec F S8x512 .f32) (s1 : Vec F S8x8 .f32) (h : Held m c t.castSucc s0 s1) :
    out7 (grid0.coords t) (iblk m c 1 t) (iblk m c 2 t) (iblk m c 4 t) (iblk m c 5 t) s1 = val7 m c t := by
  simp only [val7, out7, coutB, PX_held m c t s0 s1 h]

theorem cntB_held (c : Dev nD) (t : Fin cfg0.N) (s0 : Vec F S8x512 .f32) (s1 : Vec F S8x8 .f32) (h : Held m c t.castSucc s0 s1) :
    cntB (grid0.coords t) (iblk m c 1 t) (iblk m c 2 t) (iblk m c 4 t) (iblk m c 5 t) s1
      = cntB (grid0.coords t) (iblk m c 1 t) (iblk m c 2 t) (iblk m c 4 t) (iblk m c 5 t) (heldX m c t) := by
  funext k; unfold cntB; rw [PX_held m c t s0 s1 h]

theorem out8_held (c : Dev nD) (t : Fin cfg0.N) (s0 : Vec F S8x512 .f32) (s1 : Vec F S8x8 .f32) (h : Held m c t.castSucc s0 s1) :
    out8 (grid0.coords t) (iblk m c 1 t) (iblk m c 2 t) (iblk m c 4 t) (iblk m c 5 t) s1 = val8 m c t := by
  unfold val8 out8; rw [cntB_held m c t s0 s1 h]

/-! ## The proof data -/

/-- The product carry's buffer. -/
abbrev scA : Memref sig .tc .vmem S8x512 .f32 := Memref.whole cc0_scratch0
/-- The coordinate carry's buffer. -/
abbrev scX : Memref sig .tc .vmem S8x8 .f32 := Memref.whole cc0_scratch1

/-- The invariant before step `t`: the carries at what the step before left, and the generator register. -/
def Inv (c : Dev nD) (t : Fin (cfg0.N + 1)) : sProp 𝕄 :=
  iprop((∃ s0, ∃ s1, ⌜Held m c t s0 s1⌝ ∗ owns (c : Thread nD τ) scA fullShare s0 ∗ owns (c : Thread nD τ) scX fullShare s1)
    ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => val6 m c t
    | ⟨7, _⟩ => val7 m c t
    | ⟨8, _⟩ => val8 m c t
  Φ t := Inv m c t
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = val6 m c t := by dsimp only [dats]
theorem after0_7 (c : Dev nD) (t : Fin cfg0.N) : (dats m 0 c).after 7 t = val7 m c t := by dsimp only [dats]
theorem after0_8 (c : Dev nD) (t : Fin cfg0.N) : (dats m 0 c).after 8 t = val8 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- What point `t` leaves in the carries is what the next step finds. -/
theorem held_succ (c : Dev nD) (t : Fin cfg0.N) : Held m c t.succ (carryA m c t) (carryX m c t) := fun u hu => by
  have e : u = t := Fin.ext (by have := Fin.val_succ t; omega)
  subst e; exact ⟨rfl, rfl⟩

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Inv m c t.succ from rfl, show (dats m 0 c).Φ t.castSucc = Inv m c t.castSucc from rfl,
    show (dats m 0 c).owesAt () t.succ = (dats m 0 c).owesAt () t.castSucc from rfl,
    after0_0, after0_1, after0_2, after0_3, after0_4, after0_5, after0_6, after0_7, after0_8]
  unfold Inv
  iintro ⟨⟨⟨%s0, %s1, %hs, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run c (grid0.coords t) _ _ _ _ _ _ _ _ _ _ _ _ _ _ _ _ _ _ _ _ _ _ (iblk m c 0 t) (iblk m c 1 t) (iblk m c 2 t) (iblk m c 3 t) (iblk m c 4 t) (iblk m c 5 t) s0 s1 Set.univ _)
  rw [out6_held m c t s0 s1 hs, out7_held m c t s0 s1 hs, out8_held m c t s0 s1 hs]
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · iexists (carryA m c t); iexists (carryX m c t)
      isplitr; · ipureintro; exact held_succ m c t
      isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The launch's invariant: both carries at anything and the generator register. -/
theorem PhiA0_eq (c : Dev nD) :
    (Pipeline.ΦA spec0 c : sProp 𝕄)
      = iprop(iprop((∃ d, owns (c : Thread nD τ) scA fullShare d) ∗ (∃ d, owns (c : Thread nD τ) scX fullShare d)) ∗ (∃ r, prngReg c r)) := by
  unfold Pipeline.ΦA; rw [scopedRest0_eq]; simp only [scA, scX, owns_whole]; try rfl

/-- The launch hands the first step its invariant. -/
theorem inv_in (c : Dev nD) : (Pipeline.ΦA spec0 c : sProp 𝕄) ⊢ Inv m c 0 := by
  rw [PhiA0_eq]; unfold Inv
  iintro ⟨⟨⟨%d0, H0⟩, ⟨%d1, H1⟩⟩, Hg⟩
  isplitl [H0 H1]
  · iexists d0; iexists d1
    isplitr; · ipureintro; exact fun u hu => absurd hu (Nat.succ_ne_zero _)
    isplitl [H0]; · iexact H0
    iexact H1
  iexact Hg

/-- The last step's invariant gives the launch's back. -/
theorem inv_out (c : Dev nD) (t : Fin (cfg0.N + 1)) : Inv m c t ⊢ (Pipeline.ΦA spec0 c : sProp 𝕄) := by
  rw [PhiA0_eq]; unfold Inv
  iintro ⟨⟨%s0, %s1, %hs, H0, H1⟩, Hg⟩
  isplitl [H0 H1]
  · isplitl [H0]; · iexists s0; iexact H0
    iexists s1; iexact H1
  iexact Hg

set_option backward.isDefEq.respectTransparency.types false in
set_option maxHeartbeats 800000 in
/-- The launch, with every counter at zero at the end. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => inv_in m c) (hout := fun c => inv_out m c _)

/-- The launch: every array of the pipeline ends at what the proof data says, every other buffer at what the host lines after
    the kernel leave. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the program ends, with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.Upsample

end
-- ==== Proof.Printed.lean ====
/-
  The kernel and the ideal kernel are one text: each part of the one is the same part of the other, so what is proved of the
  ideal kernel's text at any float operations holds of the kernel's too, with floats as words.
-/
module

public import proofs.«01_k».proof.Defs
public import proofs.«01_k».proof.Proof.Frame
public import proofs.«01_k».proof.Proof.Gen.Kernel

@[expose] public section

set_option maxRecDepth 65536

noncomputable section

namespace Cert.Proof.Printed

open Idealize.ShloMosaic Idealize.ShloMosaic.TcCoe
open Idealize.SL Idealize.SL.Sem

variable {F : FTy → Type} [FloatOps F]

set_option maxHeartbeats 4000000 in
/-- The two bodies are the same program. -/
theorem body_eq : @Cert.Kernel.cc0__upsample_body F _ Cert.Kernel.Gen.facts
    = @Cert.KernelIdeal.cc0__upsample_body F _ Cert.KernelIdeal.Gen.facts := by
  with_unfolding_all rfl

set_option maxHeartbeats 4000000 in
/-- The two body tables are the same. -/
theorem kernels_eq : @Cert.Kernel.defs₀ F _ Cert.Kernel.Gen.facts = @Cert.KernelIdeal.defs₀ F _ Cert.KernelIdeal.Gen.facts := by
  refine congrArg (Defs.onTc (Λ := Cert.KernelIdeal.Λ₀)) (funext fun l => funext fun a => ?_)
  match l, a with
  | ⟨0, _⟩, (t, s) => with_unfolding_all rfl

set_option maxHeartbeats 4000000 in
/-- The two tables of the pipelines' labels are the same. -/
theorem defs_eq : @Cert.Kernel.defs F _ Cert.Kernel.Gen.facts = @Cert.KernelIdeal.defs F _ Cert.KernelIdeal.Gen.facts := by
  refine Eq.trans (congrArg (Pipeline.defs Cert.Kernel.pcfgs) kernels_eq) ?_
  with_unfolding_all rfl

set_option maxHeartbeats 4000000 in
/-- The two host programs are the same. -/
theorem main_eq : @Cert.Kernel.main F _ Cert.Kernel.Gen.facts = @Cert.KernelIdeal.main F _ Cert.KernelIdeal.Gen.facts := by
  with_unfolding_all rfl

/-- The kernel runs, leaves its arguments as they were and every semaphore counter at zero. -/
theorem kernel_frame : quiescent_Kernel (hKernel := Cert.Kernel.Gen.facts) := fun m ρ _ => by
  rw [defs_eq, main_eq]
  exact Cert.Proof.Upsample.frame (F := Bits) m ρ

end Cert.Proof.Printed

end
-- ==== Proof.TabA.lean ====
/-
  The own rows' 0/1 table read in closed form, output rows 0 to 63.
-/
module

public import proofs.«01_k».proof.KernelIdeal

@[expose] public section

set_option maxRecDepth 16384

noncomputable section

namespace Cert.Proof.Upsample

open Cert.KernelIdeal
open Idealize.ShloMosaic

/-- Rows 0 to 7 of the table. -/
theorem lit0_0 : ∀ q : Fin 8, ∀ d : Fin 128, lit0 ⟨(8 * 0 + q.val) * 128 + d.val, by omega⟩ =
    if 2 * (d.val + 8) ≤ 8 * 0 + q.val + 16 ∧ 8 * 0 + q.val + 16 ≤ 2 * (d.val + 8) + 4 then 0x3F800000#32 else 0#32 := by
  decide +kernel

/-- Rows 8 to 15 of the table. -/
theorem lit0_1 : ∀ q : Fin 8, ∀ d : Fin 128, lit0 ⟨(8 * 1 + q.val) * 128 + d.val, by omega⟩ =
    if 2 * (d.val + 8) ≤ 8 * 1 + q.val + 16 ∧ 8 * 1 + q.val + 16 ≤ 2 * (d.val + 8) + 4 then 0x3F800000#32 else 0#32 := by
  decide +kernel

/-- Rows 16 to 23 of the table. -/
theorem lit0_2 : ∀ q : Fin 8, ∀ d : Fin 128, lit0 ⟨(8 * 2 + q.val) * 128 + d.val, by omega⟩ =
    if 2 * (d.val + 8) ≤ 8 * 2 + q.val + 16 ∧ 8 * 2 + q.val + 16 ≤ 2 * (d.val + 8) + 4 then 0x3F800000#32 else 0#32 := by
  decide +kernel

/-- Rows 24 to 31 of the table. -/
theorem lit0_3 : ∀ q : Fin 8, ∀ d : Fin 128, lit0 ⟨(8 * 3 + q.val) * 128 + d.val, by omega⟩ =
    if 2 * (d.val + 8) ≤ 8 * 3 + q.val + 16 ∧ 8 * 3 + q.val + 16 ≤ 2 * (d.val + 8) + 4 then 0x3F800000#32 else 0#32 := by
  decide +kernel

/-- Rows 32 to 39 of the table. -/
theorem lit0_4 : ∀ q : Fin 8, ∀ d : Fin 128, lit0 ⟨(8 * 4 + q.val) * 128 + d.val, by omega⟩ =
    if 2 * (d.val + 8) ≤ 8 * 4 + q.val + 16 ∧ 8 * 4 + q.val + 16 ≤ 2 * (d.val + 8) + 4 then 0x3F800000#32 else 0#32 := by
  decide +kernel

/-- Rows 40 to 47 of the table. -/
theorem lit0_5 : ∀ q : Fin 8, ∀ d : Fin 128, lit0 ⟨(8 * 5 + q.val) * 128 + d.val, by omega⟩ =
    if 2 * (d.val + 8) ≤ 8 * 5 + q.val + 16 ∧ 8 * 5 + q.val + 16 ≤ 2 * (d.val + 8) + 4 then 0x3F800000#32 else 0#32 := by
  decide +kernel

/-- Rows 48 to 55 of the table. -/
theorem lit0_6 : ∀ q : Fin 8, ∀ d : Fin 128, lit0 ⟨(8 * 6 + q.val) * 128 + d.val, by omega⟩ =
    if 2 * (d.val + 8) ≤ 8 * 6 + q.val + 16 ∧ 8 * 6 + q.val + 16 ≤ 2 * (d.val + 8) + 4 then 0x3F800000#32 else 0#32 := by
  decide +kernel

/-- Rows 56 to 63 of the table. -/
theorem lit0_7 : ∀ q : Fin 8, ∀ d : Fin 128, lit0 ⟨(8 * 7 + q.val) * 128 + d.val, by omega⟩ =
    if 2 * (d.val + 8) ≤ 8 * 7 + q.val + 16 ∧ 8 * 7 + q.val + 16 ≤ 2 * (d.val + 8) + 4 then 0x3F800000#32 else 0#32 := by
  decide +kernel

end Cert.Proof.Upsample

end
-- ==== Proof.TabB.lean ====
/-
  The own rows' 0/1 table read in closed form, output rows 64 to 127.
-/
module

public import proofs.«01_k».proof.KernelIdeal

@[expose] public section

set_option maxRecDepth 16384

noncomputable section

namespace Cert.Proof.Upsample

open Cert.KernelIdeal
open Idealize.ShloMosaic

/-- Rows 64 to 71 of the table. -/
theorem lit0_8 : ∀ q : Fin 8, ∀ d : Fin 128, lit0 ⟨(8 * 8 + q.val) * 128 + d.val, by omega⟩ =
    if 2 * (d.val + 8) ≤ 8 * 8 + q.val + 16 ∧ 8 * 8 + q.val + 16 ≤ 2 * (d.val + 8) + 4 then 0x3F800000#32 else 0#32 := by
  decide +kernel

/-- Rows 72 to 79 of the table. -/
theorem lit0_9 : ∀ q : Fin 8, ∀ d : Fin 128, lit0 ⟨(8 * 9 + q.val) * 128 + d.val, by omega⟩ =
    if 2 * (d.val + 8) ≤ 8 * 9 + q.val + 16 ∧ 8 * 9 + q.val + 16 ≤ 2 * (d.val + 8) + 4 then 0x3F800000#32 else 0#32 := by
  decide +kernel

/-- Rows 80 to 87 of the table. -/
theorem lit0_10 : ∀ q : Fin 8, ∀ d : Fin 128, lit0 ⟨(8 * 10 + q.val) * 128 + d.val, by omega⟩ =
    if 2 * (d.val + 8) ≤ 8 * 10 + q.val + 16 ∧ 8 * 10 + q.val + 16 ≤ 2 * (d.val + 8) + 4 then 0x3F800000#32 else 0#32 := by
  decide +kernel

/-- Rows 88 to 95 of the table. -/
theorem lit0_11 : ∀ q : Fin 8, ∀ d : Fin 128, lit0 ⟨(8 * 11 + q.val) * 128 + d.val, by omega⟩ =
    if 2 * (d.val + 8) ≤ 8 * 11 + q.val + 16 ∧ 8 * 11 + q.val + 16 ≤ 2 * (d.val + 8) + 4 then 0x3F800000#32 else 0#32 := by
  decide +kernel

/-- Rows 96 to 103 of the table. -/
theorem lit0_12 : ∀ q : Fin 8, ∀ d : Fin 128, lit0 ⟨(8 * 12 + q.val) * 128 + d.val, by omega⟩ =
    if 2 * (d.val + 8) ≤ 8 * 12 + q.val + 16 ∧ 8 * 12 + q.val + 16 ≤ 2 * (d.val + 8) + 4 then 0x3F800000#32 else 0#32 := by
  decide +kernel

/-- Rows 104 to 111 of the table. -/
theorem lit0_13 : ∀ q : Fin 8, ∀ d : Fin 128, lit0 ⟨(8 * 13 + q.val) * 128 + d.val, by omega⟩ =
    if 2 * (d.val + 8) ≤ 8 * 13 + q.val + 16 ∧ 8 * 13 + q.val + 16 ≤ 2 * (d.val + 8) + 4 then 0x3F800000#32 else 0#32 := by
  decide +kernel

/-- Rows 112 to 119 of the table. -/
theorem lit0_14 : ∀ q : Fin 8, ∀ d : Fin 128, lit0 ⟨(8 * 14 + q.val) * 128 + d.val, by omega⟩ =
    if 2 * (d.val + 8) ≤ 8 * 14 + q.val + 16 ∧ 8 * 14 + q.val + 16 ≤ 2 * (d.val + 8) + 4 then 0x3F800000#32 else 0#32 := by
  decide +kernel

/-- Rows 120 to 127 of the table. -/
theorem lit0_15 : ∀ q : Fin 8, ∀ d : Fin 128, lit0 ⟨(8 * 15 + q.val) * 128 + d.val, by omega⟩ =
    if 2 * (d.val + 8) ≤ 8 * 15 + q.val + 16 ∧ 8 * 15 + q.val + 16 ≤ 2 * (d.val + 8) + 4 then 0x3F800000#32 else 0#32 := by
  decide +kernel

end Cert.Proof.Upsample

end
-- ==== Proof.TabC.lean ====
/-
  The own rows' 0/1 table read in closed form, output rows 128 to 191.
-/
module

public import proofs.«01_k».proof.KernelIdeal

@[expose] public section

set_option maxRecDepth 16384

noncomputable section

namespace Cert.Proof.Upsample

open Cert.KernelIdeal
open Idealize.ShloMosaic

/-- Rows 128 to 135 of the table. -/
theorem lit0_16 : ∀ q : Fin 8, ∀ d : Fin 128, lit0 ⟨(8 * 16 + q.val) * 128 + d.val, by omega⟩ =
    if 2 * (d.val + 8) ≤ 8 * 16 + q.val + 16 ∧ 8 * 16 + q.val + 16 ≤ 2 * (d.val + 8) + 4 then 0x3F800000#32 else 0#32 := by
  decide +kernel

/-- Rows 136 to 143 of the table. -/
theorem lit0_17 : ∀ q : Fin 8, ∀ d : Fin 128, lit0 ⟨(8 * 17 + q.val) * 128 + d.val, by omega⟩ =
    if 2 * (d.val + 8) ≤ 8 * 17 + q.val + 16 ∧ 8 * 17 + q.val + 16 ≤ 2 * (d.val + 8) + 4 then 0x3F800000#32 else 0#32 := by
  decide +kernel

/-- Rows 144 to 151 of the table. -/
theorem lit0_18 : ∀ q : Fin 8, ∀ d : Fin 128, lit0 ⟨(8 * 18 + q.val) * 128 + d.val, by omega⟩ =
    if 2 * (d.val + 8) ≤ 8 * 18 + q.val + 16 ∧ 8 * 18 + q.val + 16 ≤ 2 * (d.val + 8) + 4 then 0x3F800000#32 else 0#32 := by
  decide +kernel

/-- Rows 152 to 159 of the table. -/
theorem lit0_19 : ∀ q : Fin 8, ∀ d : Fin 128, lit0 ⟨(8 * 19 + q.val) * 128 + d.val, by omega⟩ =
    if 2 * (d.val + 8) ≤ 8 * 19 + q.val + 16 ∧ 8 * 19 + q.val + 16 ≤ 2 * (d.val + 8) + 4 then 0x3F800000#32 else 0#32 := by
  decide +kernel

/-- Rows 160 to 167 of the table. -/
theorem lit0_20 : ∀ q : Fin 8, ∀ d : Fin 128, lit0 ⟨(8 * 20 + q.val) * 128 + d.val, by omega⟩ =
    if 2 * (d.val + 8) ≤ 8 * 20 + q.val + 16 ∧ 8 * 20 + q.val + 16 ≤ 2 * (d.val + 8) + 4 then 0x3F800000#32 else 0#32 := by
  decide +kernel

/-- Rows 168 to 175 of the table. -/
theorem lit0_21 : ∀ q : Fin 8, ∀ d : Fin 128, lit0 ⟨(8 * 21 + q.val) * 128 + d.val, by omega⟩ =
    if 2 * (d.val + 8) ≤ 8 * 21 + q.val + 16 ∧ 8 * 21 + q.val + 16 ≤ 2 * (d.val + 8) + 4 then 0x3F800000#32 else 0#32 := by
  decide +kernel

/-- Rows 176 to 183 of the table. -/
theorem lit0_22 : ∀ q : Fin 8, ∀ d : Fin 128, lit0 ⟨(8 * 22 + q.val) * 128 + d.val, by omega⟩ =
    if 2 * (d.val + 8) ≤ 8 * 22 + q.val + 16 ∧ 8 * 22 + q.val + 16 ≤ 2 * (d.val + 8) + 4 then 0x3F800000#32 else 0#32 := by
  decide +kernel

/-- Rows 184 to 191 of the table. -/
theorem lit0_23 : ∀ q : Fin 8, ∀ d : Fin 128, lit0 ⟨(8 * 23 + q.val) * 128 + d.val, by omega⟩ =
    if 2 * (d.val + 8) ≤ 8 * 23 + q.val + 16 ∧ 8 * 23 + q.val + 16 ≤ 2 * (d.val + 8) + 4 then 0x3F800000#32 else 0#32 := by
  decide +kernel

end Cert.Proof.Upsample

end
-- ==== Proof.TabD.lean ====
/-
  The own rows' 0/1 table read in closed form, output rows 192 to 255.
-/
module

public import proofs.«01_k».proof.KernelIdeal

@[expose] public section

set_option maxRecDepth 16384

noncomputable section

namespace Cert.Proof.Upsample

open Cert.KernelIdeal
open Idealize.ShloMosaic

/-- Rows 192 to 199 of the table. -/
theorem lit0_24 : ∀ q : Fin 8, ∀ d : Fin 128, lit0 ⟨(8 * 24 + q.val) * 128 + d.val, by omega⟩ =
    if 2 * (d.val + 8) ≤ 8 * 24 + q.val + 16 ∧ 8 * 24 + q.val + 16 ≤ 2 * (d.val + 8) + 4 then 0x3F800000#32 else 0#32 := by
  decide +kernel

/-- Rows 200 to 207 of the table. -/
theorem lit0_25 : ∀ q : Fin 8, ∀ d : Fin 128, lit0 ⟨(8 * 25 + q.val) * 128 + d.val, by omega⟩ =
    if 2 * (d.val + 8) ≤ 8 * 25 + q.val + 16 ∧ 8 * 25 + q.val + 16 ≤ 2 * (d.val + 8) + 4 then 0x3F800000#32 else 0#32 := by
  decide +kernel

/-- Rows 208 to 215 of the table. -/
theorem lit0_26 : ∀ q : Fin 8, ∀ d : Fin 128, lit0 ⟨(8 * 26 + q.val) * 128 + d.val, by omega⟩ =
    if 2 * (d.val + 8) ≤ 8 * 26 + q.val + 16 ∧ 8 * 26 + q.val + 16 ≤ 2 * (d.val + 8) + 4 then 0x3F800000#32 else 0#32 := by
  decide +kernel

/-- Rows 216 to 223 of the table. -/
theorem lit0_27 : ∀ q : Fin 8, ∀ d : Fin 128, lit0 ⟨(8 * 27 + q.val) * 128 + d.val, by omega⟩ =
    if 2 * (d.val + 8) ≤ 8 * 27 + q.val + 16 ∧ 8 * 27 + q.val + 16 ≤ 2 * (d.val + 8) + 4 then 0x3F800000#32 else 0#32 := by
  decide +kernel

/-- Rows 224 to 231 of the table. -/
theorem lit0_28 : ∀ q : Fin 8, ∀ d : Fin 128, lit0 ⟨(8 * 28 + q.val) * 128 + d.val, by omega⟩ =
    if 2 * (d.val + 8) ≤ 8 * 28 + q.val + 16 ∧ 8 * 28 + q.val + 16 ≤ 2 * (d.val + 8) + 4 then 0x3F800000#32 else 0#32 := by
  decide +kernel

/-- Rows 232 to 239 of the table. -/
theorem lit0_29 : ∀ q : Fin 8, ∀ d : Fin 128, lit0 ⟨(8 * 29 + q.val) * 128 + d.val, by omega⟩ =
    if 2 * (d.val + 8) ≤ 8 * 29 + q.val + 16 ∧ 8 * 29 + q.val + 16 ≤ 2 * (d.val + 8) + 4 then 0x3F800000#32 else 0#32 := by
  decide +kernel

/-- Rows 240 to 247 of the table. -/
theorem lit0_30 : ∀ q : Fin 8, ∀ d : Fin 128, lit0 ⟨(8 * 30 + q.val) * 128 + d.val, by omega⟩ =
    if 2 * (d.val + 8) ≤ 8 * 30 + q.val + 16 ∧ 8 * 30 + q.val + 16 ≤ 2 * (d.val + 8) + 4 then 0x3F800000#32 else 0#32 := by
  decide +kernel

/-- Rows 248 to 255 of the table. -/
theorem lit0_31 : ∀ q : Fin 8, ∀ d : Fin 128, lit0 ⟨(8 * 31 + q.val) * 128 + d.val, by omega⟩ =
    if 2 * (d.val + 8) ≤ 8 * 31 + q.val + 16 ∧ 8 * 31 + q.val + 16 ≤ 2 * (d.val + 8) + 4 then 0x3F800000#32 else 0#32 := by
  decide +kernel

end Cert.Proof.Upsample

end
-- ==== Proof.Tables.lean ====
/-
  The kernel's two 0/1 tables in closed form: row `q` of the output takes row `e` of the 136 rows a sub-block sees (the eight
  before it, then its own 128) when `2e ≤ q + 16 ≤ 2e + 4`.
-/
module

public import proofs.«01_k».proof.Proof.TabA
public import proofs.«01_k».proof.Proof.TabB
public import proofs.«01_k».proof.Proof.TabC
public import proofs.«01_k».proof.Proof.TabD
public import Idealize.ShloMosaic.Lib.Pointwise
public import Idealize.ShloMosaic.Lib.IdealHost

@[expose] public section

set_option maxRecDepth 16384

noncomputable section

namespace Cert.Proof.Upsample

open Cert.KernelIdeal
open Idealize.ShloMosaic

/-- A table's entry: one where the row `q` of the output takes the row `e`. -/
abbrev hit (q e : ℕ) : Prop := 2 * e ≤ q + 16 ∧ q + 16 ≤ 2 * e + 4

/-- The own rows' table's words, eight rows at a time. -/
theorem lit0_rows (a : ℕ) (ha : a < 32) : ∀ q : Fin 8, ∀ d : Fin 128, lit0 ⟨(8 * a + q.val) * 128 + d.val, by omega⟩ =
    if hit (8 * a + q.val) (d.val + 8) then 0x3F800000#32 else 0#32 := by
  have h : a = 0 ∨ a = 1 ∨ a = 2 ∨ a = 3 ∨ a = 4 ∨ a = 5 ∨ a = 6 ∨ a = 7 ∨ a = 8 ∨ a = 9 ∨ a = 10 ∨ a = 11 ∨ a = 12 ∨ a = 13 ∨ a = 14 ∨ a = 15 ∨ a = 16 ∨ a = 17 ∨ a = 18 ∨ a = 19 ∨ a = 20 ∨ a = 21 ∨ a = 22 ∨ a = 23 ∨ a = 24 ∨ a = 25 ∨ a = 26 ∨ a = 27 ∨ a = 28 ∨ a = 29 ∨ a = 30 ∨ a = 31 := by omega
  rcases h with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact lit0_0
  · exact lit0_1
  · exact lit0_2
  · exact lit0_3
  · exact lit0_4
  · exact lit0_5
  · exact lit0_6
  · exact lit0_7
  · exact lit0_8
  · exact lit0_9
  · exact lit0_10
  · exact lit0_11
  · exact lit0_12
  · exact lit0_13
  · exact lit0_14
  · exact lit0_15
  · exact lit0_16
  · exact lit0_17
  · exact lit0_18
  · exact lit0_19
  · exact lit0_20
  · exact lit0_21
  · exact lit0_22
  · exact lit0_23
  · exact lit0_24
  · exact lit0_25
  · exact lit0_26
  · exact lit0_27
  · exact lit0_28
  · exact lit0_29
  · exact lit0_30
  · exact lit0_31
/-- The rows before's table's words. -/
theorem lit1_rows : ∀ q : Fin 256, ∀ d : Fin 8, lit1 ⟨q.val * 8 + d.val, by omega⟩ =
    if hit q.val d.val then 0x3F800000#32 else 0#32 := by
  decide +kernel

/-- The own rows' table. -/
def tabU : FVec Ideal S256x128 .f32 := fun i => FloatOps.ofBits .f32 (lit0 (S256x128.rowMajor i))
/-- The rows before's table. -/
def tabV : FVec Ideal S256x8 .f32 := fun i => FloatOps.ofBits .f32 (lit1 (S256x8.rowMajor i))

/-- The own rows' table at an index. -/
theorem tabU_apply (q : Fin 256) (d : Fin 128) : tabU (ix2 q d) = if hit q.val (d.val + 8) then (1 : EReal) else 0 := by
  have e : S256x128.rowMajor (ix2 q d) = (⟨(8 * (q.val / 8) + q.val % 8) * 128 + d.val, by omega⟩ : Fin 32768) :=
    Fin.ext ((rowMajor_val2 (ix2 q d) 128 rfl).trans (by show q.val * 128 + d.val = _; dsimp only; omega))
  have h := lit0_rows (q.val / 8) (by omega) ⟨q.val % 8, by omega⟩ d
  have e' : lit0 (S256x128.rowMajor (ix2 q d)) = if hit q.val (d.val + 8) then 0x3F800000#32 else 0#32 := by
    refine (congrArg lit0 e).trans (h.trans ?_)
    have : 8 * (q.val / 8) + q.val % 8 = q.val := by omega
    simp only [this]
  show FloatOps.ofBits .f32 (lit0 (S256x128.rowMajor (ix2 q d))) = _
  rw [e']
  split
  · exact Ideal.ofBits_one_f32
  · exact Ideal.ofBits_zero_f32

/-- The rows before's table at an index. -/
theorem tabV_apply (q : Fin 256) (d : Fin 8) : tabV (ix2 q d) = if hit q.val d.val then (1 : EReal) else 0 := by
  have e : S256x8.rowMajor (ix2 q d) = (⟨q.val * 8 + d.val, by omega⟩ : Fin 2048) :=
    Fin.ext (rowMajor_val2 (ix2 q d) 8 rfl)
  have e' : lit1 (S256x8.rowMajor (ix2 q d)) = if hit q.val d.val then 0x3F800000#32 else 0#32 :=
    (congrArg lit1 e).trans (lit1_rows q d)
  show FloatOps.ofBits .f32 (lit1 (S256x8.rowMajor (ix2 q d))) = _
  rw [e']
  split
  · exact Ideal.ofBits_one_f32
  · exact Ideal.ofBits_zero_f32

end Cert.Proof.Upsample

end
-- ==== Proof.Blocks.lean ====
/-
  The kernel's input blocks, read at an index off the arguments: the features, the coordinates, the packed masks, the weights
  and the two 0/1 tables.
-/
module

public import proofs.«01_k».proof.Proof.Frame
public import proofs.«01_k».proof.Proof.Tables
public import Idealize.ShloMosaic.Lib.Pipeline.ValueKit
public import Idealize.ShloMosaic.Lib.Pointwise
public import Idealize.ShloMosaic.Lib.IdealHost

@[expose] public section

set_option maxRecDepth 16384

noncomputable section

namespace Cert.Proof.Upsample

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable (m : (ℓ : Loc nD τ sig) → Buf (Elt Ideal) ℓ) (ρ : Dev nD → PrngReg)

theorem idx0 : ∀ t : Fin grid0.N, win0_0.index t = ![min t.val 15, 0] := by decide +kernel
theorem idx1 : ∀ t : Fin grid0.N, win0_1.index t = ![min t.val 15, 0] := by decide +kernel
theorem idx2 : ∀ t : Fin grid0.N, win0_2.index t = ![min t.val 15, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![t.val, 0] := by decide +kernel

/-- The features' block. -/
theorem iblk0_apply (c : Dev nD) (t : Fin cfg0.N) (r : Fin 1024) (l : Fin 512) (h : 1024 * min t.val 15 + r.val < 16384) :
    iblk m c 0 t (ix2 r l) = m ((c : Thread nD τ).loc main_arg0) (ix2 ⟨1024 * min t.val 15 + r.val, h⟩ l) := by
  rw [← V_main_arg0 m c]
  blk_ext [iblk, idx0 t]

/-- The coordinates' block. -/
theorem iblk1_apply (c : Dev nD) (t : Fin cfg0.N) (r : Fin 1024) (l : Fin 3) (h : 1024 * min t.val 15 + r.val < 16384) :
    iblk m c 1 t (ix2 r l) = m ((c : Thread nD τ).loc main_arg2) (ix2 ⟨1024 * min t.val 15 + r.val, h⟩ l) := by
  rw [← V_main_arg2 m c]
  blk_ext [iblk, idx1 t]

/-- The weights' block. -/
theorem iblk3_apply (c : Dev nD) (t : Fin cfg0.N) (r : Fin 512) (l : Fin 512) :
    iblk m c 3 t (ix2 r l) = m ((c : Thread nD τ).loc main_arg4) (ix2 r l) := by
  rw [← V_main_arg4 m c]
  blk_ext [iblk, idx3 t]

/-- The packed masks: one row of coordinate masks and one row of feature masks per sub-block. -/
def packed (c : Dev nD) : FVec Ideal S128x256 .f32 :=
  concatenate S128x256 1 [⟨S128x128, shapeCast S128x128 (uitofp .f32 (m ((c : Thread nD τ).loc main_arg3) : S16384.Idx → BitVec 1) : FVec Ideal S16384 .f32) shapeCasts_S16384_S128x128⟩,
      ⟨S128x128, shapeCast S128x128 (uitofp .f32 (m ((c : Thread nD τ).loc main_arg1) : S16384.Idx → BitVec 1) : FVec Ideal S16384 .f32) shapeCasts_S16384_S128x128⟩] concatenates_S128x128_S128x128_S128x256_d1

/-- The packed masks as the kernel finds them. -/
theorem V_main_v4 (c : Dev nD) : V m c main_v4 = packed m c := by
  unfold V V0 packed
  simp only [List.flatten_cons, List.flatten_nil, List.append_nil, hostOps0]
  after_results_simp <;> rfl

theorem V_main_cst (c : Dev nD) : V m c main_cst = tabU := by
  unfold V V0 tabU
  simp only [List.flatten_cons, List.flatten_nil, List.append_nil, hostOps0]
  after_results_simp <;> rfl

theorem V_main_cst_0 (c : Dev nD) : V m c main_cst_0 = tabV := by
  unfold V V0 tabV
  simp only [List.flatten_cons, List.flatten_nil, List.append_nil, hostOps0]
  after_results_simp <;> rfl

/-- The tables' blocks. -/
theorem iblk4_apply (c : Dev nD) (t : Fin cfg0.N) (q : Fin 256) (d : Fin 128) :
    iblk m c 4 t (ix2 q d) = if hit q.val (d.val + 8) then (1 : EReal) else 0 := by
  rw [← tabU_apply, ← V_main_cst m c]
  blk_ext [iblk, idx4 t]

theorem iblk5_apply (c : Dev nD) (t : Fin cfg0.N) (q : Fin 256) (d : Fin 8) :
    iblk m c 5 t (ix2 q d) = if hit q.val d.val then (1 : EReal) else 0 := by
  rw [← tabV_apply, ← V_main_cst_0 m c]
  blk_ext [iblk, idx5 t]

/-- A mask's bit as a number. -/
abbrev bit (b : BitVec 1) : EReal := if b = 1#1 then 1 else 0

theorem uitofp_bit (b : BitVec 1) : (FloatOps.uitofp .f32 b : Ideal .f32) = bit b := by
  show ((b.toNat : ℝ) : EReal) = bit b
  rcases BitVec.eq_zero_or_eq_one b with rfl | rfl <;> simp [bit]

theorem packed_c (c : Dev nD) (r : Fin 128) (l : Fin 128) (h : r.val * 128 + l.val < 16384) :
    packed m c (ix2 r ⟨l.val, by omega⟩) = bit (m ((c : Thread nD τ).loc main_arg3) (ix1 ⟨r.val * 128 + l.val, h⟩)) := by
  unfold packed
  pointwise
  exact uitofp_bit _

theorem packed_i (c : Dev nD) (r : Fin 128) (l : Fin 128) (h : r.val * 128 + l.val < 16384) :
    packed m c (ix2 r ⟨128 + l.val, by omega⟩) = bit (m ((c : Thread nD τ).loc main_arg1) (ix1 ⟨r.val * 128 + l.val, h⟩)) := by
  unfold packed
  pointwise
  exact uitofp_bit _

/-- The masks' block: sub-block `k`'s row of coordinate masks. -/
theorem iblk2_c (c : Dev nD) (t : Fin cfg0.N) (k : Fin 8) (d : Fin 128) (h : 1024 * min t.val 15 + 128 * k.val + d.val < 16384) :
    iblk m c 2 t (ix2 k ⟨d.val, by omega⟩) = bit (m ((c : Thread nD τ).loc main_arg3) (ix1 ⟨1024 * min t.val 15 + 128 * k.val + d.val, h⟩)) := by
  have e : (⟨1024 * min t.val 15 + 128 * k.val + d.val, h⟩ : Fin 16384) = ⟨(8 * min t.val 15 + k.val) * 128 + d.val, by omega⟩ := Fin.ext (by dsimp only; omega)
  rw [e, ← packed_c m c ⟨8 * min t.val 15 + k.val, by omega⟩ d (by dsimp only; omega), ← V_main_v4 m c]
  blk_ext [iblk, idx2 t]

/-- The masks' block: sub-block `k`'s row of feature masks. -/
theorem iblk2_i (c : Dev nD) (t : Fin cfg0.N) (k : Fin 8) (d : Fin 128) (h : 1024 * min t.val 15 + 128 * k.val + d.val < 16384) :
    iblk m c 2 t (ix2 k ⟨128 + d.val, by omega⟩) = bit (m ((c : Thread nD τ).loc main_arg1) (ix1 ⟨1024 * min t.val 15 + 128 * k.val + d.val, h⟩)) := by
  have e : (⟨1024 * min t.val 15 + 128 * k.val + d.val, h⟩ : Fin 16384) = ⟨(8 * min t.val 15 + k.val) * 128 + d.val, by omega⟩ := Fin.ext (by dsimp only; omega)
  rw [e, ← packed_i m c ⟨8 * min t.val 15 + k.val, by omega⟩ d (by dsimp only; omega), ← V_main_v4 m c]
  blk_ext [iblk, idx2 t]

end Cert.Proof.Upsample

end
-- ==== Proof.Rows.lean ====
/-
  The rows a sub-block works on, as numbers: its 128 masked product rows and the eight before it are one run of the masked
  product's rows, and the same for the masked coordinates and masks.
-/
module

public import proofs.«01_k».proof.Proof.Blocks

@[expose] public section

set_option maxRecDepth 16384

noncomputable section

namespace Cert.Proof.Upsample

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- The features' mask of row `s`. -/
def mI (c : Dev nD) (s : Fin 16384) : BitVec 1 := m ((c : Thread nD τ).loc main_arg1) (ix1 s)
/-- The coordinates' mask of row `s`. -/
def mC (c : Dev nD) (s : Fin 16384) : BitVec 1 := m ((c : Thread nD τ).loc main_arg3) (ix1 s)
/-- The coordinates of row `s`. -/
def crd (c : Dev nD) (s : Fin 16384) (l : Fin 3) : EReal := m ((c : Thread nD τ).loc main_arg2) (ix2 s l)
/-- The features of row `s`. -/
def feat (c : Dev nD) (s : Fin 16384) (k : Fin 512) : EReal := m ((c : Thread nD τ).loc main_arg0) (ix2 s k)
/-- The weights. -/
def wt (c : Dev nD) (k l : Fin 512) : EReal := m ((c : Thread nD τ).loc main_arg4) (ix2 k l)
/-- The product of features and weights. -/
def lin (c : Dev nD) (s : Fin 16384) (l : Fin 512) : EReal := ∑ k : Fin 512, feat m c s k * wt m c k l

/-- A function of the rows moved eight places up, zero outside. -/
def shift8 (f : Fin 16384 → EReal) (n : ℕ) : EReal := if h : 8 ≤ n ∧ n < 16392 then f ⟨n - 8, by omega⟩ else 0

/-- The masked product's rows. -/
def rowA (c : Dev nD) (l : Fin 512) : ℕ → EReal := shift8 fun s => lin m c s l * bit (mI m c s)

/-- The masked coordinates (columns 0 to 2), the coordinates' mask (column 3) and the features' mask (column 4). -/
def colX (c : Dev nD) (l : Fin 8) (s : Fin 16384) : EReal :=
  if h : l.val < 3 then crd m c s ⟨l.val, h⟩ * bit (mC m c s) else if l.val = 3 then bit (mC m c s) else if l.val = 4 then bit (mI m c s) else 0

/-- The masked coordinates' and masks' rows. -/
def rowX (c : Dev nD) (l : Fin 8) : ℕ → EReal := shift8 (colX m c l)

theorem live_coords : ∀ t : Fin grid0.N, live (grid0.coords t) = if t.val < 16 then 1#1 else 0#1 := by decide +kernel

theorem first_coords : ∀ t : Fin grid0.N, Scalar.cmpi .eq (BitVec.ofNat 32 (grid0.coords t 0).val) 0#32 = if t.val = 0 then 1#1 else 0#1 := by decide +kernel

theorem N_lt (t : Fin cfg0.N) : t.val < 17 := lt_of_lt_of_eq t.isLt N_0

/-- A row of the features' block. -/
theorem feat_blk (c : Dev nD) (t : Fin cfg0.N) (h : t.val < 16) (r : Fin 1024) (x : Fin 512) (s : Fin 16384) (hs : s.val = 1024 * t.val + r.val) :
    iblk m c 0 t (ix2 r x) = feat m c s x := by
  have hb : 1024 * min t.val 15 + r.val < 16384 := by have := s.isLt; omega
  have e : s = ⟨1024 * min t.val 15 + r.val, hb⟩ := Fin.ext (by dsimp only; omega)
  rw [iblk0_apply m c t r x hb, feat, e]

/-- A row of the coordinates' block. -/
theorem crd_blk (c : Dev nD) (t : Fin cfg0.N) (h : t.val < 16) (r : Fin 1024) (x : Fin 3) (s : Fin 16384) (hs : s.val = 1024 * t.val + r.val) :
    iblk m c 1 t (ix2 r x) = crd m c s x := by
  have hb : 1024 * min t.val 15 + r.val < 16384 := by have := s.isLt; omega
  have e : s = ⟨1024 * min t.val 15 + r.val, hb⟩ := Fin.ext (by dsimp only; omega)
  rw [iblk1_apply m c t r x hb, crd, e]

/-- A coordinates' mask of the masks' block. -/
theorem mC_blk (c : Dev nD) (t : Fin cfg0.N) (h : t.val < 16) (k : Fin 8) (d : Fin 128) (hd : d.val < 256) (s : Fin 16384)
    (hs : s.val = 1024 * t.val + 128 * k.val + d.val) : iblk m c 2 t (ix2 k ⟨d.val, hd⟩) = bit (mC m c s) := by
  have hb : 1024 * min t.val 15 + 128 * k.val + d.val < 16384 := by have := s.isLt; omega
  have e : s = ⟨1024 * min t.val 15 + 128 * k.val + d.val, hb⟩ := Fin.ext (by dsimp only; omega)
  rw [iblk2_c m c t k d hb, mC, e]

/-- A features' mask of the masks' block. -/
theorem mI_blk (c : Dev nD) (t : Fin cfg0.N) (h : t.val < 16) (k : Fin 8) (d : Fin 128) (hd : 128 + d.val < 256) (s : Fin 16384)
    (hs : s.val = 1024 * t.val + 128 * k.val + d.val) : iblk m c 2 t (ix2 k ⟨128 + d.val, hd⟩) = bit (mI m c s) := by
  have hb : 1024 * min t.val 15 + 128 * k.val + d.val < 16384 := by have := s.isLt; omega
  have e : s = ⟨1024 * min t.val 15 + 128 * k.val + d.val, hb⟩ := Fin.ext (by dsimp only; omega)
  rw [iblk2_i m c t k d hb, mI, e]

/-- Sub-block `k`'s masked product rows. -/
theorem A_apply (c : Dev nD) (t : Fin cfg0.N) (k : Fin 8) (d : Fin 128) (l : Fin 512) :
    A (grid0.coords t) (iblk m c 0 t) (iblk m c 2 t) (iblk m c 3 t) k (ix2 d l) = rowA m c l (1024 * t.val + 128 * k.val + d.val + 8) := by
  have ht := N_lt t
  unfold A rowA shift8
  rw [live_coords]
  by_cases h : t.val < 16
  · rw [if_pos h, dif_pos (by omega)]
    pointwise [k0_pay8, k0_pay7]
    rw [mI_blk m c t h k d _ ⟨1024 * t.val + 128 * k.val + d.val + 8 - 8, by omega⟩ (by dsimp only; omega)]
    refine congrArg (· * _) (Finset.sum_congr rfl fun x _ => ?_)
    rw [feat_blk m c t h _ x ⟨1024 * t.val + 128 * k.val + d.val + 8 - 8, by omega⟩ (by dsimp only; omega), iblk3_apply]
    rfl
  · rw [if_neg h, dif_neg (by omega)]
    pointwise [k0_pay8, k0_pay7]

/-- Sub-block `k`'s masked coordinates and masks. -/
theorem X_apply (c : Dev nD) (t : Fin cfg0.N) (k : Fin 8) (d : Fin 128) (l : Fin 8) :
    X (grid0.coords t) (iblk m c 1 t) (iblk m c 2 t) k (ix2 d l) = rowX m c l (1024 * t.val + 128 * k.val + d.val + 8) := by
  have ht := N_lt t
  unfold X rowX shift8
  rw [live_coords]
  by_cases h : t.val < 16
  · rw [if_pos h, dif_pos (by omega)]
    have hs : (1024 * t.val + 128 * k.val + d.val + 8 - 8) = 1024 * t.val + 128 * k.val + d.val := by omega
    have hs' : (1024 * t.val + 128 * k.val + d.val + 8 - 8) = 1024 * t.val + (128 * k.val + d.val) := by omega
    pointwise [k0_pay9, k0_pay7]
    unfold colX
    by_cases h3 : l.val < 3
    · rw [dif_pos h3, dif_pos h3, mC_blk m c t h k d _ ⟨1024 * t.val + 128 * k.val + d.val + 8 - 8, by omega⟩ hs,
        crd_blk m c t h _ _ ⟨1024 * t.val + 128 * k.val + d.val + 8 - 8, by omega⟩ hs']
    · rw [dif_neg h3, dif_neg h3, mC_blk m c t h k d _ ⟨1024 * t.val + 128 * k.val + d.val + 8 - 8, by omega⟩ hs,
        mI_blk m c t h k d _ ⟨1024 * t.val + 128 * k.val + d.val + 8 - 8, by omega⟩ hs]
      by_cases h4 : l.val = 3
      · rw [dif_pos (by omega), if_pos h4]
      · rw [dif_neg (by omega), if_neg h4]
        by_cases h5 : l.val = 4
        · rw [dif_pos (by omega), if_pos h5]
        · rw [dif_neg (by omega), if_neg h5]
  · rw [if_neg h, dif_neg (by omega)]
    pointwise [k0_pay9, k0_pay7]

/-- The last eight rows of a product at an index. -/
theorem lastA_apply (a : FVec Ideal S128x512 .f32) (d : Fin 8) (l : Fin 512) : lastA a (ix2 d l) = a (ix2 ⟨120 + d.val, by omega⟩ l) := by
  pointwise [lastA]

/-- The last eight rows of coordinates and masks at an index. -/
theorem lastX_apply (a : FVec Ideal S128x8 .f32) (d : Fin 8) (l : Fin 8) : lastX a (ix2 d l) = a (ix2 ⟨120 + d.val, by omega⟩ l) := by
  pointwise [lastX]

/-- The eight product rows before sub-block `k`. -/
theorem PA_apply (c : Dev nD) (t : Fin cfg0.N) (k : Fin 8) (d : Fin 8) (l : Fin 512) :
    PA (grid0.coords t) (iblk m c 0 t) (iblk m c 2 t) (iblk m c 3 t) (heldA m c t) k (ix2 d l) = rowA m c l (1024 * t.val + 128 * k.val + d.val) := by
  unfold PA
  by_cases hk : k.val = 0
  · rw [dif_pos hk]
    unfold k0_pay2
    dsimp only
    rw [first_coords]
    by_cases ht : t.val = 0
    · rw [if_pos ht, rowA, shift8, dif_neg (by omega)]
      pointwise
    · rw [if_neg ht, heldA, dif_neg ht]
      have e := A_apply m c ⟨t.val - 1, by omega⟩ 7 ⟨120 + d.val, by omega⟩ l
      rw [show (1024 * (t.val - 1) + 128 * (7 : Fin 8).val + (120 + d.val) + 8) = 1024 * t.val + 128 * k.val + d.val from by
        show 1024 * (t.val - 1) + 128 * 7 + (120 + d.val) + 8 = _; omega] at e
      exact (lastA_apply _ d l).trans e
  · rw [dif_neg hk, lastA_apply, A_apply]
    congr 1; dsimp only; omega

/-- The eight rows of coordinates and masks before sub-block `k`. -/
theorem PX_apply (c : Dev nD) (t : Fin cfg0.N) (k : Fin 8) (d : Fin 8) (l : Fin 8) :
    PX (grid0.coords t) (iblk m c 1 t) (iblk m c 2 t) (heldX m c t) k (ix2 d l) = rowX m c l (1024 * t.val + 128 * k.val + d.val) := by
  unfold PX
  by_cases hk : k.val = 0
  · rw [dif_pos hk]
    unfold k0_pay3
    dsimp only
    rw [first_coords]
    by_cases ht : t.val = 0
    · rw [if_pos ht, rowX, shift8, dif_neg (by omega)]
      pointwise
    · rw [if_neg ht, heldX, dif_neg ht]
      have e := X_apply m c ⟨t.val - 1, by omega⟩ 7 ⟨120 + d.val, by omega⟩ l
      rw [show (1024 * (t.val - 1) + 128 * (7 : Fin 8).val + (120 + d.val) + 8) = 1024 * t.val + 128 * k.val + d.val from by
        show 1024 * (t.val - 1) + 128 * 7 + (120 + d.val) + 8 = _; omega] at e
      exact (lastX_apply _ d l).trans e
  · rw [dif_neg hk, lastX_apply, X_apply]
    congr 1; dsimp only; omega

end Cert.Proof.Upsample

end
-- ==== Proof.Sums.lean ====
/-
  An output row's sum. The rows whose window meets an output row are at most three, and the kernel
  finds them among its sub-block's 128 rows and the eight rows before; the sum is the same as over
  all rows.
-/
module

public import proofs.«01_k».proof.Proof.Rows

@[expose] public section

set_option maxRecDepth 16384

noncomputable section

namespace Cert.Proof.Upsample

open Cert.KernelIdeal Cert.KernelIdeal.Gen
open Idealize.ShloMosaic Idealize.ShloMosaic.TcCoe Idealize.ShloMosaic.Tactic
open Idealize.SL Idealize.SL.Sem

/-- Output row `r`'s sum: the rows `s` with `2 s ≤ r ≤ 2 s + 4`. -/
def rowsum (f : Fin 16384 → EReal) (r : ℕ) : EReal := ∑ s : Fin 16384, if 2 * s.val ≤ r ∧ r ≤ 2 * s.val + 4 then f s else 0

/-- A sub-block's 128 rows and the eight rows before, summed where the output row's window meets them, give the output row's sum. -/
theorem window_sum (f : Fin 16384 → EReal) (b q : ℕ) (hq : q < 256) :
    (∑ d : Fin 128, if hit q (d.val + 8) then shift8 f (b + d.val + 8) else 0) + (∑ d : Fin 8, if hit q d.val then shift8 f (b + d.val) else 0)
      = rowsum f (2 * b + q) := by
  let G : ℕ → EReal := fun n => if hit (2 * b + q) n then shift8 f n else 0
  have h1 : (∑ d : Fin 128, if hit q (d.val + 8) then shift8 f (b + d.val + 8) else 0) = ∑ d ∈ Finset.range 128, G (b + (8 + d)) := by
    rw [← Fin.sum_univ_eq_sum_range (fun d => G (b + (8 + d)))]
    refine Finset.sum_congr rfl fun d _ => ?_
    have e : b + (8 + d.val) = b + d.val + 8 := by omega
    dsimp only [G]
    rw [e]
    exact if_congr (by unfold hit; omega) rfl rfl
  have h2 : (∑ d : Fin 8, if hit q d.val then shift8 f (b + d.val) else 0) = ∑ d ∈ Finset.range 8, G (b + d) := by
    rw [← Fin.sum_univ_eq_sum_range (fun d => G (b + d))]
    refine Finset.sum_congr rfl fun d _ => ?_
    exact if_congr (by unfold hit; omega) rfl rfl
  have h3 : rowsum f (2 * b + q) = ∑ d ∈ Finset.range 16384, G (8 + d) := by
    rw [← Fin.sum_univ_eq_sum_range (fun d => G (8 + d)), rowsum]
    refine Finset.sum_congr rfl fun s _ => ?_
    dsimp only [G]
    have e : shift8 f (8 + s.val) = f s := by
      rw [shift8, dif_pos (by omega)]
      exact congrArg f (Fin.ext (by dsimp only; omega))
    rw [e]
    exact if_congr (by unfold hit; omega) rfl rfl
  rw [h1, h2, h3, add_comm, ← Finset.sum_range_add (fun d => G (b + d)) 8 128]
  have hI : ∑ d ∈ Finset.range (8 + 128), G (b + d) = ∑ n ∈ Finset.Ico b (b + 136), G n := by
    rw [Finset.sum_Ico_eq_sum_range, Nat.add_sub_cancel_left]
  have hJ : ∑ d ∈ Finset.range 16384, G (8 + d) = ∑ n ∈ Finset.Ico 8 16392, G n := by
    rw [Finset.sum_Ico_eq_sum_range]
  rw [hI, hJ]
  have hA : ∑ n ∈ Finset.Ico b (b + 136), G n = ∑ n ∈ Finset.range (b + 16392), G n := by
    refine Finset.sum_subset (fun n hn => ?_) fun n _ hn => ?_
    · rw [Finset.mem_Ico] at hn; rw [Finset.mem_range]; omega
    · rw [Finset.mem_Ico] at hn
      exact if_neg (by unfold hit; omega)
  have hB : ∑ n ∈ Finset.Ico 8 16392, G n = ∑ n ∈ Finset.range (b + 16392), G n := by
    refine Finset.sum_subset (fun n hn => ?_) fun n _ hn => ?_
    · rw [Finset.mem_Ico] at hn; rw [Finset.mem_range]; omega
    · rw [Finset.mem_Ico] at hn
      have e : shift8 f n = 0 := by rw [shift8, dif_neg (by omega)]
      dsimp only [G]
      rw [e, ite_self]
  rw [hA, hB]

variable (m : (ℓ : Loc nD τ sig) → Buf (Elt Ideal) ℓ)

/-- Column `l` of the coordinates' and masks' sums. -/
def csum (c : Dev nD) (r : ℕ) (l : Fin 8) : EReal := rowsum (colX m c l) r

/-- The features' sum. -/
def asum (c : Dev nD) (r : ℕ) (l : Fin 512) : EReal := rowsum (fun s => lin m c s l * bit (mI m c s)) r

/-- Output row `r`'s features: their sum over the count, or over one if that is more. -/
def fval (c : Dev nD) (r : ℕ) (l : Fin 512) : EReal := Ideal.div (asum m c r l) (max (csum m c r 4) 1)

/-- Output row `r`'s coordinates: their sum over the count, or one if that is more, and a millionth. -/
def cval (c : Dev nD) (r : ℕ) (l : Fin 3) : EReal :=
  Ideal.div (csum m c r ⟨l.val, by omega⟩) (max (csum m c r 3) 1 + Ideal.ofBits .f32 0x358637bd#32)

/-- A sub-block's sums of coordinates and masks. -/
theorem csum_apply (c : Dev nD) (t : Fin cfg0.N) (k : Fin 8) (q : Fin 256) (l : Fin 8) :
    k0_pay33 (iblk m c 4 t) (iblk m c 5 t) (PX (grid0.coords t) (iblk m c 1 t) (iblk m c 2 t) (heldX m c t) k)
        (X (grid0.coords t) (iblk m c 1 t) (iblk m c 2 t) k) (ix2 q l)
      = csum m c (2048 * t.val + 256 * k.val + q.val) l := by
  have e := window_sum (colX m c l) (1024 * t.val + 128 * k.val) q.val q.isLt
  rw [show 2 * (1024 * t.val + 128 * k.val) + q.val = 2048 * t.val + 256 * k.val + q.val from by omega] at e
  rw [csum, ← e]
  pointwise [k0_pay33]
  congr 1
  · refine Finset.sum_congr rfl fun d _ => ?_
    rw [iblk4_apply, X_apply, ite_mul, one_mul, zero_mul]
    rfl
  · refine Finset.sum_congr rfl fun d _ => ?_
    rw [iblk5_apply, PX_apply, ite_mul, one_mul, zero_mul]
    rfl

/-- Sub-block `k`'s features: their sum over the count, or over one. -/
theorem outB_apply (c : Dev nD) (t : Fin cfg0.N) (k : Fin 8) (q : Fin 256) (l : Fin 512) :
    outB (grid0.coords t) (iblk m c 0 t) (iblk m c 1 t) (iblk m c 2 t) (iblk m c 3 t) (iblk m c 4 t) (iblk m c 5 t) (heldA m c t) (heldX m c t) k (ix2 q l)
      = fval m c (2048 * t.val + 256 * k.val + q.val) l := by
  have e := window_sum (fun s => lin m c s l * bit (mI m c s)) (1024 * t.val + 128 * k.val) q.val q.isLt
  rw [show 2 * (1024 * t.val + 128 * k.val) + q.val = 2048 * t.val + 256 * k.val + q.val from by omega] at e
  rw [fval, asum, ← e]
  have e4 := csum_apply m c t k q 4
  unfold outB outP
  pointwise [k0_pay34]
  rw [e4]
  refine congrArg (fun z => Ideal.div z _) (congrArg₂ (· + ·) (Finset.sum_congr rfl fun d _ => ?_) (Finset.sum_congr rfl fun d _ => ?_))
  · rw [iblk4_apply, A_apply, ite_mul, one_mul, zero_mul]
    rfl
  · rw [iblk5_apply, PA_apply, ite_mul, one_mul, zero_mul]
    rfl

/-- Sub-block `k`'s coordinates. -/
theorem coutB_apply (c : Dev nD) (t : Fin cfg0.N) (k : Fin 8) (q : Fin 256) (l : Fin 3) :
    coutB (grid0.coords t) (iblk m c 1 t) (iblk m c 2 t) (iblk m c 4 t) (iblk m c 5 t) (heldX m c t) k (ix2 q l)
      = cval m c (2048 * t.val + 256 * k.val + q.val) l := by
  rw [cval, ← csum_apply, ← csum_apply]
  unfold coutB coutP
  pointwise [k0_pay35, k0_pay36, k0_pay37, k0_pay38]

/-- Sub-block `k`'s counts. -/
theorem cntB_apply (c : Dev nD) (t : Fin cfg0.N) (k : Fin 8) (q : Fin 256) (l : Fin 2) :
    cntB (grid0.coords t) (iblk m c 1 t) (iblk m c 2 t) (iblk m c 4 t) (iblk m c 5 t) (heldX m c t) k (ix2 q l)
      = csum m c (2048 * t.val + 256 * k.val + q.val) ⟨3 + l.val, by omega⟩ := by
  rw [← csum_apply]
  unfold cntB cntP
  pointwise [k0_pay39]

end Cert.Proof.Upsample

end
-- ==== Proof.Arrays.lean ====
/-
  The three output arrays after the launch, at an index: every output row's features and coordinates, and its counts packed
  128 to a row.
-/
module

public import proofs.«01_k».proof.Proof.Sums
public import Idealize.ShloMosaic.Lib.Pipeline.ValueKit

@[expose] public section

set_option maxRecDepth 16384

noncomputable section

namespace Cert.Proof.Upsample

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- What the features' output array ends at. -/
def F6 (c : Dev nD) : FVec Ideal S32771x512 .f32 := fun i => fval m c (i 0).val (i 1)

/-- What the coordinates' output array ends at. -/
def F7 (c : Dev nD) : FVec Ideal S32771x3 .f32 := fun i => cval m c (i 0).val (i 1)

/-- What the counts' output array ends at: the coordinates' counts in the left half, the features' in the right half. -/
def F8 (c : Dev nD) : FVec Ideal S272x256 .f32 := fun i =>
  csum m c (128 * (i 0).val + (i 1).val % 128) (if (i 1).val < 128 then 3 else 4)

/-- What a grid point's block of features ends at. -/
def B6 (c : Dev nD) (t : Fin cfg0.N) : FVec Ideal S2048x512 .f32 := fun y => fval m c (2048 * t.val + (y 0).val) (y 1)

/-- What a grid point's block of coordinates ends at. -/
def B7 (c : Dev nD) (t : Fin cfg0.N) : FVec Ideal S2048x3 .f32 := fun y => cval m c (2048 * t.val + (y 0).val) (y 1)

/-- What a grid point's block of counts ends at. -/
def B8 (c : Dev nD) (t : Fin cfg0.N) : FVec Ideal S16x256 .f32 := fun y =>
  csum m c (2048 * t.val + 128 * (y 0).val + (y 1).val % 128) (if (y 1).val < 128 then 3 else 4)

/-- The features' output block at an index. -/
theorem val6_apply (c : Dev nD) (t : Fin cfg0.N) (y : S2048x512.Idx) :
    val6 m c t y = B6 m c t y := by
  unfold val6 out6
  have key : ∀ (k : Fin 8) (x : (boxO k).shape.Idx),
      outB (grid0.coords t) (iblk m c 0 t) (iblk m c 1 t) (iblk m c 2 t) (iblk m c 3 t) (iblk m c 4 t) (iblk m c 5 t) (heldA m c t) (heldX m c t) k x
        = B6 m c t ((boxO k).emb x) := by
    intro k x
    have hx : x = (ix2 (x 0) (x 1) : S256x512.Idx) := by funext a; fin_cases a <;> rfl
    have h0 : ((boxO k).emb x 0).val = 256 * k.val + (x 0).val := ValueKit.rect_emb_unit_val _ _ _ _ _
    have h1 : (boxO k).emb x 1 = x 1 := Fin.ext ((ValueKit.rect_emb_unit_val _ _ _ _ _).trans (Nat.zero_add _))
    unfold B6
    rw [h0, h1, hx]
    refine (outB_apply m c t k (x 0) (x 1)).trans ?_
    rw [show 2048 * t.val + 256 * k.val + (x 0).val = 2048 * t.val + (256 * k.val + (x 0).val) from by omega]
    rfl
  refine View.canon_apply_of_pieces (Val := Elt Ideal) (B6 m c t) _ ?_ y (cover6 _ _ _ _ _ _ _ _ y)
  intro p hp x
  simp only [List.mem_cons, List.not_mem_nil, or_false] at hp
  rcases hp with rfl | rfl | rfl | rfl | rfl | rfl | rfl | rfl <;> exact key _ x

/-- The coordinates' output block at an index. -/
theorem val7_apply (c : Dev nD) (t : Fin cfg0.N) (y : S2048x3.Idx) :
    val7 m c t y = B7 m c t y := by
  unfold val7 out7
  have key : ∀ (k : Fin 8) (x : (boxQ k).shape.Idx),
      coutB (grid0.coords t) (iblk m c 1 t) (iblk m c 2 t) (iblk m c 4 t) (iblk m c 5 t) (heldX m c t) k x
        = B7 m c t ((boxQ k).emb x) := by
    intro k x
    have hx : x = (ix2 (x 0) (x 1) : S256x3.Idx) := by funext a; fin_cases a <;> rfl
    have h0 : ((boxQ k).emb x 0).val = 256 * k.val + (x 0).val := ValueKit.rect_emb_unit_val _ _ _ _ _
    have h1 : (boxQ k).emb x 1 = x 1 := Fin.ext ((ValueKit.rect_emb_unit_val _ _ _ _ _).trans (Nat.zero_add _))
    unfold B7
    rw [h0, h1, hx]
    refine (coutB_apply m c t k (x 0) (x 1)).trans ?_
    rw [show 2048 * t.val + 256 * k.val + (x 0).val = 2048 * t.val + (256 * k.val + (x 0).val) from by omega]
    rfl
  refine View.canon_apply_of_pieces (Val := Elt Ideal) (B7 m c t) _ ?_ y (cover7 _ _ _ _ _ _ _ _ y)
  intro p hp x
  simp only [List.mem_cons, List.not_mem_nil, or_false] at hp
  rcases hp with rfl | rfl | rfl | rfl | rfl | rfl | rfl | rfl <;> exact key _ x

/-- The counts of a grid point's 2048 output rows. -/
theorem counts_apply (c : Dev nD) (t : Fin cfg0.N) (n : Fin 2048) (l : Fin 2) :
    countsP (cntB (grid0.coords t) (iblk m c 1 t) (iblk m c 2 t) (iblk m c 4 t) (iblk m c 5 t) (heldX m c t)) (ix2 n l)
      = csum m c (2048 * t.val + n.val) ⟨3 + l.val, by omega⟩ := by
  have key : ∀ (k : Fin 8) (q : Fin 256), 256 * k.val + q.val = n.val →
      cntB (grid0.coords t) (iblk m c 1 t) (iblk m c 2 t) (iblk m c 4 t) (iblk m c 5 t) (heldX m c t) k (ix2 q l)
        = csum m c (2048 * t.val + n.val) ⟨3 + l.val, by omega⟩ := by
    intro k q h
    rw [cntB_apply, ← h, ← Nat.add_assoc]
  unfold countsP
  pointwise
  split_ifs <;> refine key _ _ ?_ <;> simp <;> omega

/-- The counts' output block at an index. -/
theorem val8_apply (c : Dev nD) (t : Fin cfg0.N) (y : S16x256.Idx) :
    val8 m c t y = B8 m c t y := by
  unfold val8 out8
  have hC : ∀ x : boxN0.shape.Idx, packC (countsP (cntB (grid0.coords t) (iblk m c 1 t) (iblk m c 2 t) (iblk m c 4 t) (iblk m c 5 t) (heldX m c t))) x
      = B8 m c t (boxN0.emb x) := by
    intro x
    have h0 : (boxN0.emb x 0).val = (x 0).val := (ValueKit.rect_emb_unit_val _ _ _ _ _).trans (Nat.zero_add _)
    have h1 : (boxN0.emb x 1).val = (x 1).val := (ValueKit.rect_emb_unit_val _ _ _ _ _).trans (Nat.zero_add _)
    have b0 : (x 0).val < 16 := (x 0).isLt
    have b1 : (x 1).val < 128 := (x 1).isLt
    have hx : x = (ix2 (x 0) (x 1) : S16x128.Idx) := by funext a; fin_cases a <;> rfl
    unfold B8
    rw [h0, h1, if_pos b1, Nat.mod_eq_of_lt b1, hx]
    have e := counts_apply m c t ⟨128 * (x 0).val + (x 1).val, by omega⟩ 0
    refine Eq.trans ?_ (e.trans ?_)
    · unfold packC
      pointwise
      exact congrArg (fun n => countsP _ (ix2 n 0)) (Fin.ext (by dsimp only; omega))
    · rw [← Nat.add_assoc]
      rfl
  have hI : ∀ x : boxN1.shape.Idx, packI (countsP (cntB (grid0.coords t) (iblk m c 1 t) (iblk m c 2 t) (iblk m c 4 t) (iblk m c 5 t) (heldX m c t))) x
      = B8 m c t (boxN1.emb x) := by
    intro x
    have h0 : (boxN1.emb x 0).val = (x 0).val := (ValueKit.rect_emb_unit_val _ _ _ _ _).trans (Nat.zero_add _)
    have h1 : (boxN1.emb x 1).val = 128 + (x 1).val := ValueKit.rect_emb_unit_val _ _ _ _ _
    have b0 : (x 0).val < 16 := (x 0).isLt
    have b1 : (x 1).val < 128 := (x 1).isLt
    have hx : x = (ix2 (x 0) (x 1) : S16x128.Idx) := by funext a; fin_cases a <;> rfl
    unfold B8
    rw [h0, h1, if_neg (by omega), Nat.add_mod_left, Nat.mod_eq_of_lt b1, hx]
    have e := counts_apply m c t ⟨128 * (x 0).val + (x 1).val, by omega⟩ 1
    refine Eq.trans ?_ (e.trans ?_)
    · unfold packI
      pointwise
      exact congrArg (fun n => countsP _ (ix2 n 1)) (Fin.ext (by dsimp only; omega))
    · rw [← Nat.add_assoc]
      rfl
  refine View.canon_apply_of_pieces (Val := Elt Ideal) (B8 m c t) _ ?_ y (cover8 _ _ y)
  intro p hp x
  simp only [List.mem_cons, List.not_mem_nil, or_false] at hp
  rcases hp with rfl | rfl
  · exact hI x
  · exact hC x

/-- The features' output array after the launch. -/
theorem arr6 (c : Dev nD) : (dats m 0 c).arrAt 6 cfg0.N = F6 m c := by
  refine (dats m 0 c).arrAt_eq_of_covers 6 _ (by decide +kernel) fun t hf y => ?_
  blk_simp
  rw [after0_6, val6_apply]
  unfold F6 B6
  refine congrArg₂ (fval m c) ?_ (Fin.ext ?_)
  · blk_simp [idx6 t, Pipeline.Window.xinj]
    show 2048 * t.val + (y 0).val = t.val * 2048 + (y 0).val
    omega
  · blk_simp [idx6 t, Pipeline.Window.xinj]

/-- The coordinates' output array after the launch. -/
theorem arr7 (c : Dev nD) : (dats m 0 c).arrAt 7 cfg0.N = F7 m c := by
  refine (dats m 0 c).arrAt_eq_of_covers 7 _ (by decide +kernel) fun t hf y => ?_
  blk_simp
  rw [after0_7, val7_apply]
  unfold F7 B7
  refine congrArg₂ (cval m c) ?_ (Fin.ext ?_)
  · blk_simp [idx7 t, Pipeline.Window.xinj]
    show 2048 * t.val + (y 0).val = t.val * 2048 + (y 0).val
    omega
  · blk_simp [idx7 t, Pipeline.Window.xinj]

/-- The counts' output array after the launch. -/
theorem arr8 (c : Dev nD) : (dats m 0 c).arrAt 8 cfg0.N = F8 m c := by
  refine (dats m 0 c).arrAt_eq_of_covers 8 _ (by decide +kernel) fun t hf y => ?_
  blk_simp
  rw [after0_8, val8_apply]
  unfold F8 B8
  blk_simp [idx8 t, Pipeline.Window.xinj]
  congr 1
  omega

end Cert.Proof.Upsample

end
-- ==== Proof.Suffix.lean ====
/-
  The kernel program's results: the two output arrays of the launch, and the two masks the last host lines make of the
  counts.
-/
module

public import proofs.«01_k».proof.Proof.Arrays

@[expose] public section

set_option maxRecDepth 16384

noncomputable section

namespace Cert.Proof.Upsample

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- The features' mask after the launch: whether an output row's count is above zero. -/
def M13 (c : Dev nD) : Vec Ideal S32771 .i1 := fun i => Ideal.cmp .ogt (csum m c (i 0).val 4) 0

/-- The coordinates' mask after the launch. -/
def M15 (c : Dev nD) : Vec Ideal S32771 .i1 := fun i => Ideal.cmp .ogt (csum m c (i 0).val 3) 0

/-- The features' mask of the counts' array, as the last host lines compute it. -/
def toI (x : FVec Ideal S272x256 .f32) : Vec Ideal S32771 .i1 :=
  cmpf .ogt (extractStridedSlice S32771 ![0] (shapeCast S34816 (extractStridedSlice S272x128 ![0, 128] x slices_S272x256_S272x128_0_128) shapeCasts_S272x128_S34816) slices_S34816_S32771_0)
    (broadcastInDim S32771 ![] bcast_S_S32771 (constant S_ .f32 0x00000000#32))

/-- The coordinates' mask of the counts' array, as the last host lines compute it. -/
def toC (x : FVec Ideal S272x256 .f32) : Vec Ideal S32771 .i1 :=
  cmpf .ogt (extractStridedSlice S32771 ![0] (shapeCast S34816 (extractStridedSlice S272x128 ![0, 0] x slices_S272x256_S272x128_0_0) shapeCasts_S272x128_S34816) slices_S34816_S32771_0)
    (broadcastInDim S32771 ![] bcast_S_S32771 (constant S_ .f32 0x00000000#32))

/-- The features' mask at an index. -/
theorem toI_F8 (c : Dev nD) : toI (F8 m c) = M13 m c := by
  funext i
  idx_vars i
  unfold toI
  pointwise [F8, M13]
  rw [show 128 * (i0.val / 128) + (128 + i0.val % 128) % 128 = i0.val from by omega]

/-- The coordinates' mask at an index. -/
theorem toC_F8 (c : Dev nD) : toC (F8 m c) = M15 m c := by
  funext i
  idx_vars i
  unfold toC
  pointwise [F8, M15]
  rw [show 128 * (i0.val / 128) + i0.val % 128 % 128 = i0.val from by omega, if_pos (by omega)]

/-- The counts' array as the last host lines find it. -/
theorem exit8 (c : Dev nD) (V : Valuation τ sig (Elt Ideal)) :
    Pipeline.withArrays (cfgs (0 : Fin 1)).spec c V (fun w => (dats m 0 c).arrAt w (cfgs 0).N) (Proc.devRef .tc main_v5_2) = F8 m c :=
  (Pipeline.withArrays_arr (cfgs (0 : Fin 1)).spec (by decide) c V (fun w => (dats m 0 c).arrAt w (cfgs 0).N) 8).trans (arr8 m c)

/-- The features' mask at the end. -/
theorem tail13 (c : Dev nD) : Pipeline.afterTail₀ cfgs (dats m) 0 (V0 m) [hostOps1] c main_v13 = M13 m c := by
  have h : ∀ W : Valuation τ sig (Elt Ideal), StableHlo.after ([hostOps1] : List (List (HloOp τ sig (Elt Ideal)))).flatten W (Proc.devRef .tc main_v13)
      = toI (W (Proc.devRef .tc main_v5_2)) := by
    intro W
    simp only [List.flatten_cons, List.flatten_nil, List.append_nil, hostOps1]
    after_results_simp <;> rfl
  exact (h _).trans ((congrArg toI (exit8 m c (V0 m c))).trans (toI_F8 m c))

/-- The coordinates' mask at the end. -/
theorem tail15 (c : Dev nD) : Pipeline.afterTail₀ cfgs (dats m) 0 (V0 m) [hostOps1] c main_v15 = M15 m c := by
  have h : ∀ W : Valuation τ sig (Elt Ideal), StableHlo.after ([hostOps1] : List (List (HloOp τ sig (Elt Ideal)))).flatten W (Proc.devRef .tc main_v15)
      = toC (W (Proc.devRef .tc main_v5_2)) := by
    intro W
    simp only [List.flatten_cons, List.flatten_nil, List.append_nil, hostOps1]
    after_results_simp <;> rfl
  exact (h _).trans ((congrArg toC (exit8 m c (V0 m c))).trans (toC_F8 m c))

/-- The kernel program's results, with its arguments unchanged. -/
theorem results : θ_run defs (onTc (τ := τ) (main (F := Ideal))) ⟨m, fun _ => 0, ρ⟩ (fun r => ∀ c : Dev nD,
      r.2.mem ((c.tc : Thread nD τ).loc main_v5_0) = F6 m c
      ∧ r.2.mem ((c.tc : Thread nD τ).loc main_v13) = M13 m c
      ∧ r.2.mem ((c.tc : Thread nD τ).loc main_v5_1) = F7 m c
      ∧ r.2.mem ((c.tc : Thread nD τ).loc main_v15) = M15 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c).1 6).trans (arr6 m c),
      ((h.1 c).2 main_v13 (Pipeline.mem_restRefs_of main_v13 (by decide) (by decide))).trans (tail13 m c),
      ((h.1 c).1 7).trans (arr7 m c),
      ((h.1 c).2 main_v15 (Pipeline.mem_restRefs_of main_v15 (by decide) (by decide))).trans (tail15 m c),
      h.2.1 c⟩) (θ_run_and (run_main m ρ) (frame m ρ))

end Cert.Proof.Upsample

end
-- ==== Proof.RefRows.lean ====
/-
  The reference's scatters, read at an index: where each window's row lands, and every output row as a sum over the rows
  whose window meets it.
-/
module

public import proofs.«01_k».proof.Proof.Gen.ReferenceIdeal.Run
public import proofs.«01_k».proof.Proof.Sums
public import Idealize.ShloMosaic.Lib.Pointwise
public import Idealize.ShloMosaic.Lib.Routing.OpsPair

@[expose] public section

set_option maxRecDepth 16384

noncomputable section

namespace Cert.Proof.UpsampleRef

open Cert.ReferenceIdeal Cert.ReferenceIdeal.Gen
open Idealize.ShloMosaic Idealize.ShloMosaic.TcCoe Idealize.ShloMosaic.Tactic
open Cert.Proof.Upsample (rowsum bit)

/-- The output row of each row's windows: twice the row and the window. -/
def dst : IVec S16384x5 32 :=
  addi (broadcastInDim S16384x5 ![0, 1] bcast_S16384x1_S16384x5_0_1 (muli (broadcastInDim S16384x1 ![] bcast_S_S16384x1 (constantI S_ 32 2#32)) (broadcastInDim S16384x1 ![0] bcast_S16384_S16384x1_0 (iotaInDim S16384 32 0))))
    (broadcastInDim S16384x5 ![0, 1] bcast_S1x5_S16384x5_0_1 (broadcastInDim S1x5 ![1] bcast_S5_S1x5_1 (iotaInDim S5 32 0)))

/-- The same with the row past the end where a row is masked out. -/
def masked (k : IVec S16384 1) : IVec S16384x5 32 :=
  select (broadcastInDim S16384x5 ![0, 1] bcast_S16384x1_S16384x5_0_1 (broadcastInDim S16384x1 ![0] bcast_S16384_S16384x1_0 k))
    (select (cmpi .ne dst (broadcastInDim S16384x5 ![] bcast_S_S16384x5 (constantI S_ 32 4294967295#32))) dst (broadcastInDim S16384x5 ![] bcast_S_S16384x5 (id (constantI S_ 32 32771#32))))
    (broadcastInDim S16384x5 ![] bcast_S_S16384x5 (id (constantI S_ 32 32771#32)))

/-- The index words of a scatter. -/
def word (k : IVec S16384 1) : IVec S16384x5x1 32 :=
  broadcastInDim S16384x5x1 ![0, 1] bcast_S16384x5_S16384x5x1_0_1
    (select (cmpi .slt (masked k) (broadcastInDim S16384x5 ![] bcast_S_S16384x5 (constantI S_ 32 0#32)))
      (addi (masked k) (broadcastInDim S16384x5 ![] bcast_S_S16384x5 (constantI S_ 32 32771#32))) (masked k))

/-- A window's output row. -/
theorem dst_apply (s : Fin 16384) (j : Fin 5) : dst (ix2 s j) = BitVec.ofNat 32 (2 * s.val + j.val) := by
  unfold dst
  pointwise
  apply BitVec.eq_of_toNat_eq
  show (2#32 * BitVec.ofNat 32 s.val + BitVec.ofNat 32 j.val).toNat = _
  simp only [BitVec.toNat_add, BitVec.toNat_mul, BitVec.toNat_ofNat]
  omega

/-- A window's output row, or the row past the end. -/
theorem masked_apply (k : IVec S16384 1) (s : Fin 16384) (j : Fin 5) :
    masked k (ix2 s j) = if k (ix1 s) = 1#1 then BitVec.ofNat 32 (2 * s.val + j.val) else 32771#32 := by
  unfold masked
  pointwise
  rw [dst_apply]
  have hne : IntOp.cmpi .ne (BitVec.ofNat 32 (2 * s.val + j.val)) 4294967295#32 = 1#1 := by
    rw [WordCmp.cmpi_ne_eq_toNat, WordCmp.toNat_ofNat_of_lt (by omega)]
    exact (WordCmp.ofBool_decide_eq_one_iff _).mpr (by show _ ≠ 4294967295; omega)
  rw [hne]
  by_cases h : k (ix1 s) = 1#1
  · rw [if_pos h, h]
    rfl
  · rw [if_neg h]
    exact if_neg h

/-- A scatter's index word is output row `r` exactly when the row is not masked out and the window's output row is `r`. -/
theorem word_eq (k : IVec S16384 1) (s : Fin 16384) (j : Fin 5) (r : Fin 32771) :
    (word k (ix3 s j 0)).toInt = (r.val : Int) ↔ k (ix1 s) = 1#1 ∧ 2 * s.val + j.val = r.val := by
  have hm : (masked k (ix2 s j)).toNat = if k (ix1 s) = 1#1 then 2 * s.val + j.val else 32771 := by
    rw [masked_apply]
    by_cases h : k (ix1 s) = 1#1
    · rw [if_pos h, if_pos h, WordCmp.toNat_ofNat_of_lt (by omega)]
    · rw [if_neg h, if_neg h]
      rfl
  have hlt : (masked k (ix2 s j)).toNat < 2 ^ (32 - 1) := by
    rw [hm]
    split_ifs <;> omega
  have e : word k (ix3 s j 0) = masked k (ix2 s j) := by
    unfold word
    pointwise
    exact Routing.wrap_of_lt _ _ hlt
  rw [e, WordCmp.toInt_eq_toNat_of_lt_half hlt, hm]
  by_cases h : k (ix1 s) = 1#1
  · rw [if_pos h]
    simp only [h, true_and]
    omega
  · rw [if_neg h]
    simp only [h, false_and, iff_false]
    omega

/-- Where an update of the counts' scatter lands. -/
theorem lands1 (idx : IVec S16384x5x1 32) (s : Fin 16384) (j : Fin 5) (r : Fin 32771) :
    scatter_S32771_S16384x5x1_S16384x5_n_0_0_2.resultIdx? (ix2 s j) idx = some (ix1 r) ↔ (idx (ix3 s j 0)).toInt = (r.val : Int) := by
  rw [Routing.resultIdx?_eq_some]
  have hw : scatter_S32771_S16384x5x1_S16384x5_n_0_0_2.window (ix2 s j) 0 = 0 := rfl
  have hs : scatter_S32771_S16384x5x1_S16384x5_n_0_0_2.start (ix2 s j) idx 0 = (idx (ix3 s j 0)).toInt := by
    unfold ScatterDims.start
    rw [dif_pos (by decide)]
    congr 2
    funext b
    fin_cases b <;> rfl
  constructor
  · intro h
    have h0 := h 0
    rw [hw, hs] at h0
    exact (add_zero _).symm.trans h0
  · intro h a
    fin_cases a
    exact (congrArg₂ (fun x (y : ℕ) => x + (y : Int)) hs hw).trans ((add_zero _).trans h)

/-- Where an update of the coordinates' scatter lands. -/
theorem lands3 (idx : IVec S16384x5x1 32) (s : Fin 16384) (j : Fin 5) (l : Fin 3) (r : Fin 32771) (l' : Fin 3) :
    scatter_S32771x3_S16384x5x1_S16384x5x3_2_0_0_2.resultIdx? (ix3 s j l) idx = some (ix2 r l') ↔ (idx (ix3 s j 0)).toInt = (r.val : Int) ∧ l = l' := by
  rw [Routing.resultIdx?_eq_some]
  have hw : scatter_S32771x3_S16384x5x1_S16384x5x3_2_0_0_2.window (ix3 s j l) 0 = 0 := rfl
  have hw' : scatter_S32771x3_S16384x5x1_S16384x5x3_2_0_0_2.window (ix3 s j l) 1 = l.val := rfl
  have hs' : scatter_S32771x3_S16384x5x1_S16384x5x3_2_0_0_2.start (ix3 s j l) idx 1 = 0 := rfl
  have hs : scatter_S32771x3_S16384x5x1_S16384x5x3_2_0_0_2.start (ix3 s j l) idx 0 = (idx (ix3 s j 0)).toInt := by
    unfold ScatterDims.start
    rw [dif_pos (by decide)]
    congr 2
    funext b
    fin_cases b <;> rfl
  constructor
  · intro h
    have h0 := h 0
    have h1 := h 1
    rw [hw, hs] at h0
    rw [hw', hs'] at h1
    refine ⟨(add_zero _).symm.trans h0, Fin.ext ?_⟩
    have h1' : (0 : Int) + (l.val : Int) = (l'.val : Int) := h1
    omega
  · rintro ⟨h, rfl⟩ a
    fin_cases a
    · exact (congrArg₂ (fun x (y : ℕ) => x + (y : Int)) hs hw).trans ((add_zero _).trans h)
    · exact (congrArg₂ (fun x (y : ℕ) => x + (y : Int)) hs' hw').trans (zero_add _)

/-- Where an update of the features' scatter lands. -/
theorem lands512 (idx : IVec S16384x5x1 32) (s : Fin 16384) (j : Fin 5) (l : Fin 512) (r : Fin 32771) (l' : Fin 512) :
    scatter_S32771x512_S16384x5x1_S16384x5x512_2_0_0_2.resultIdx? (ix3 s j l) idx = some (ix2 r l') ↔ (idx (ix3 s j 0)).toInt = (r.val : Int) ∧ l = l' := by
  rw [Routing.resultIdx?_eq_some]
  have hw : scatter_S32771x512_S16384x5x1_S16384x5x512_2_0_0_2.window (ix3 s j l) 0 = 0 := rfl
  have hw' : scatter_S32771x512_S16384x5x1_S16384x5x512_2_0_0_2.window (ix3 s j l) 1 = l.val := rfl
  have hs' : scatter_S32771x512_S16384x5x1_S16384x5x512_2_0_0_2.start (ix3 s j l) idx 1 = 0 := rfl
  have hs : scatter_S32771x512_S16384x5x1_S16384x5x512_2_0_0_2.start (ix3 s j l) idx 0 = (idx (ix3 s j 0)).toInt := by
    unfold ScatterDims.start
    rw [dif_pos (by decide)]
    congr 2
    funext b
    fin_cases b <;> rfl
  constructor
  · intro h
    have h0 := h 0
    have h1 := h 1
    rw [hw, hs] at h0
    rw [hw', hs'] at h1
    refine ⟨(add_zero _).symm.trans h0, Fin.ext ?_⟩
    have h1' : (0 : Int) + (l.val : Int) = (l'.val : Int) := h1
    omega
  · rintro ⟨h, rfl⟩ a
    fin_cases a
    · exact (congrArg₂ (fun x (y : ℕ) => x + (y : Int)) hs hw).trans ((add_zero _).trans h)
    · exact (congrArg₂ (fun x (y : ℕ) => x + (y : Int)) hs' hw').trans (zero_add _)

/-- The five windows of a row: at most one meets an output row. -/
theorem sum_windows (b : BitVec 1) (s r : ℕ) (v : EReal) :
    (∑ j : Fin 5, if b = 1#1 ∧ 2 * s + j.val = r then v else 0) = if 2 * s ≤ r ∧ r ≤ 2 * s + 4 then (if b = 1#1 then v else 0) else 0 := by
  by_cases h : 2 * s ≤ r ∧ r ≤ 2 * s + 4
  · rw [if_pos h, Finset.sum_eq_single ⟨r - 2 * s, by omega⟩]
    · exact if_congr ⟨fun q => q.1, fun q => ⟨q, by dsimp only; omega⟩⟩ rfl rfl
    · intro j _ hj
      exact if_neg fun q => hj (Fin.ext (by dsimp only; omega))
    · intro q
      exact absurd (Finset.mem_univ _) q
  · rw [if_neg h]
    exact Finset.sum_eq_zero fun j _ => if_neg (by omega)

/-- The counts' scatter at an output row. -/
theorem count_apply (k : IVec S16384 1) (r : Fin 32771) :
    Ideal.hostScatterAdd scatter_S32771_S16384x5x1_S16384x5_n_0_0_2 (fun _ => 0) (word k) (fun _ => 1) (ix1 r)
      = rowsum (fun s => bit (k (ix1 s))) r.val := by
  unfold Ideal.hostScatterAdd
  rw [zero_add, Finset.sum_filter, sum_idx2, rowsum]
  refine Finset.sum_congr rfl fun s _ => ?_
  refine Eq.trans (Finset.sum_congr rfl fun j _ => ?_) (sum_windows (k (ix1 s)) s.val r.val 1)
  exact if_congr ((lands1 _ s j r).trans (word_eq k s j r)) rfl rfl

/-- The coordinates' scatter at an output row. -/
theorem coords_apply (k : IVec S16384 1) (u : S16384x5x3.Idx → EReal) (f : Fin 16384 → Fin 3 → EReal) (hu : ∀ s j l, u (ix3 s j l) = f s l)
    (r : Fin 32771) (l : Fin 3) :
    Ideal.hostScatterAdd scatter_S32771x3_S16384x5x1_S16384x5x3_2_0_0_2 (fun _ => 0) (word k) u (ix2 r l)
      = rowsum (fun s => if k (ix1 s) = 1#1 then f s l else 0) r.val := by
  unfold Ideal.hostScatterAdd
  rw [zero_add, Finset.sum_filter, sum_idx3, rowsum]
  refine Finset.sum_congr rfl fun s _ => ?_
  refine Eq.trans (Finset.sum_congr rfl fun j _ => ?_) (sum_windows (k (ix1 s)) s.val r.val (f s l))
  rw [Finset.sum_eq_single l]
  · exact if_congr ((lands3 _ s j l r l).trans ((and_iff_left rfl).trans (word_eq k s j r))) (hu s j l) rfl
  · intro l' _ hl
    exact if_neg fun q => hl ((lands3 _ s j l' r l).mp q).2
  · intro q
    exact absurd (Finset.mem_univ _) q

/-- The features' scatter at an output row. -/
theorem feats_apply (k : IVec S16384 1) (u : S16384x5x512.Idx → EReal) (f : Fin 16384 → Fin 512 → EReal) (hu : ∀ s j l, u (ix3 s j l) = f s l)
    (r : Fin 32771) (l : Fin 512) :
    Ideal.hostScatterAdd scatter_S32771x512_S16384x5x1_S16384x5x512_2_0_0_2 (fun _ => 0) (word k) u (ix2 r l)
      = rowsum (fun s => if k (ix1 s) = 1#1 then f s l else 0) r.val := by
  unfold Ideal.hostScatterAdd
  rw [zero_add, Finset.sum_filter, sum_idx3, rowsum]
  refine Finset.sum_congr rfl fun s _ => ?_
  refine Eq.trans (Finset.sum_congr rfl fun j _ => ?_) (sum_windows (k (ix1 s)) s.val r.val (f s l))
  rw [Finset.sum_eq_single l]
  · exact if_congr ((lands512 _ s j l r l).trans ((and_iff_left rfl).trans (word_eq k s j r))) (hu s j l) rfl
  · intro l' _ hl
    exact if_neg fun q => hl ((lands512 _ s j l' r l).mp q).2
  · intro q
    exact absurd (Finset.mem_univ _) q

end Cert.Proof.UpsampleRef

end
-- ==== Proof.RefValues.lean ====
/-
  The reference's four results at an index: sums over the rows whose window meets the output row, over the number of such
  rows that are not masked out.
-/
module

public import proofs.«01_k».proof.Proof.RefRows
public import Idealize.ShloMosaic.Lib.IdealHost

@[expose] public section

set_option maxRecDepth 16384

noncomputable section

namespace Cert.Proof.UpsampleRef

open Cert.ReferenceIdeal Cert.ReferenceIdeal.Gen
open Idealize.ShloMosaic Idealize.ShloMosaic.TcCoe Idealize.ShloMosaic.Tactic
open Cert.Proof.Upsample (rowsum bit)

/-- How many rows that are not masked out meet an output row. -/
def cnt (k : IVec S16384 1) : FVec Ideal S32771 .f32 :=
  Host.scatterAdd scatter_S32771_S16384x5x1_S16384x5_n_0_0_2 (broadcastInDim S32771 ![] bcast_S_S32771 (constant S_ .f32 0x00000000#32)) (word k)
    (broadcastInDim S16384x5 ![] bcast_S_S16384x5 (constant S_ .f32 0x3F800000#32))

/-- The same with one for none. -/
def deg (k : IVec S16384 1) : FVec Ideal S32771 .f32 :=
  select (cmpf .oeq (cnt k) (broadcastInDim S32771 ![] bcast_S_S32771 (constant S_ .f32 0x00000000#32)))
    (broadcastInDim S32771 ![] bcast_S_S32771 (id (constant S_ .f32 0x3F800000#32))) (cnt k)

/-- The new mask. -/
def newMask (k : IVec S16384 1) : Vec Ideal S32771 .i1 :=
  cmpf .ogt (cnt k) (broadcastInDim S32771 ![] bcast_S_S32771 (constant S_ .f32 0x00000000#32))

/-- The new coordinates. -/
def newCoord (k : IVec S16384 1) (x : FVec Ideal S16384x3 .f32) : FVec Ideal S32771x3 .f32 :=
  Host.divf
    (Host.scatterAdd scatter_S32771x3_S16384x5x1_S16384x5x3_2_0_0_2 (broadcastInDim S32771x3 ![] bcast_S_S32771x3 (constant S_ .f32 0x00000000#32)) (word k)
      (broadcastInDim S16384x5x3 ![0, 1, 2] bcast_S16384x1x3_S16384x5x3_0_1_2 (broadcastInDim S16384x1x3 ![0, 2] bcast_S16384x3_S16384x1x3_0_2 x)))
    (broadcastInDim S32771x3 ![0, 1] bcast_S32771x1_S32771x3_0_1
      (addf (broadcastInDim S32771x1 ![0] bcast_S32771_S32771x1_0 (deg k)) (broadcastInDim S32771x1 ![] bcast_S_S32771x1 (constant S_ .f32 0x358637BD#32))))

/-- The new features. -/
def newFeat (k : IVec S16384 1) (x : FVec Ideal S16384x512 .f32) (w : FVec Ideal S512x512 .f32) : FVec Ideal S32771x512 .f32 :=
  Host.divf
    (Host.scatterAdd scatter_S32771x512_S16384x5x1_S16384x5x512_2_0_0_2 (broadcastInDim S32771x512 ![] bcast_S_S32771x512 (constant S_ .f32 0x00000000#32)) (word k)
      (broadcastInDim S16384x5x512 ![0, 1, 2] bcast_S16384x1x512_S16384x5x512_0_1_2 (broadcastInDim S16384x1x512 ![0, 2] bcast_S16384x512_S16384x1x512_0_2
        (Host.dotGeneral dot_S16384x512_S512x512_S16384x512_1_0_0_1_n_n none x w))))
    (broadcastInDim S32771x512 ![0, 1] bcast_S32771x1_S32771x512_0_1 (broadcastInDim S32771x1 ![0] bcast_S32771_S32771x1_0 (deg k)))

/-- The number of an output row's rows that are not masked out. -/
abbrev num (k : IVec S16384 1) (r : ℕ) : EReal := rowsum (fun s => bit (k (ix1 s))) r

/-- The counts at an output row. -/
theorem cnt_apply (k : IVec S16384 1) (r : Fin 32771) : cnt k (ix1 r) = num k r.val := by
  have h0 : (broadcastInDim S32771 ![] bcast_S_S32771 (constant S_ .f32 0x00000000#32) : FVec Ideal S32771 .f32) = fun _ => (0 : EReal) := by
    funext i; idx_vars i; pointwise
  have h1 : (broadcastInDim S16384x5 ![] bcast_S_S16384x5 (constant S_ .f32 0x3F800000#32) : FVec Ideal S16384x5 .f32) = fun _ => (1 : EReal) := by
    funext i; idx_vars i; pointwise
  unfold cnt
  rw [h0, h1]
  exact count_apply k r

/-- The number is a natural number. -/
theorem num_nat (k : IVec S16384 1) (r : ℕ) : ∃ n : ℕ, num k r = (n : EReal) := by
  refine ⟨∑ s : Fin 16384, if 2 * s.val ≤ r ∧ r ≤ 2 * s.val + 4 then (if k (ix1 s) = 1#1 then 1 else 0) else 0, ?_⟩
  rw [Nat.cast_sum]
  refine Finset.sum_congr rfl fun s _ => ?_
  simp only [bit]
  split_ifs <;> simp

/-- One for none is the larger of the number and one. -/
theorem num_max (k : IVec S16384 1) (r : ℕ) : (if num k r = 0 then 1 else num k r) = max (num k r) 1 := by
  obtain ⟨n, hn⟩ := num_nat k r
  rw [hn]
  by_cases h : n = 0
  · subst h
    simp
  · rw [if_neg (by exact_mod_cast h), max_eq_left]
    exact_mod_cast Nat.one_le_iff_ne_zero.mpr h

/-- The counts with one for none at an output row. -/
theorem deg_apply (k : IVec S16384 1) (r : Fin 32771) : deg k (ix1 r) = max (num k r.val) 1 := by
  rw [← num_max]
  unfold deg
  pointwise
  rw [cnt_apply]
  show (if num k r.val = 0 then Ideal.ofBits .f32 0x3F800000#32 else num k r.val) = _
  rw [Ideal.ofBits_one_f32]

/-- The new mask at an output row. -/
theorem newMask_apply (k : IVec S16384 1) (r : Fin 32771) : newMask k (ix1 r) = Ideal.cmp .ogt (num k r.val) 0 := by
  unfold newMask
  pointwise
  rw [cnt_apply]

/-- The new coordinates at an index. -/
theorem newCoord_apply (k : IVec S16384 1) (x : FVec Ideal S16384x3 .f32) (r : Fin 32771) (l : Fin 3) :
    newCoord k x (ix2 r l)
      = Ideal.div (rowsum (fun s => if k (ix1 s) = 1#1 then x (ix2 s l) else 0) r.val) (max (num k r.val) 1 + Ideal.ofBits .f32 0x358637bd#32) := by
  have h0 : (broadcastInDim S32771x3 ![] bcast_S_S32771x3 (constant S_ .f32 0x00000000#32) : FVec Ideal S32771x3 .f32) = fun _ => (0 : EReal) := by
    funext i; idx_vars i; pointwise
  have e := coords_apply k (broadcastInDim S16384x5x3 ![0, 1, 2] bcast_S16384x1x3_S16384x5x3_0_1_2 (broadcastInDim S16384x1x3 ![0, 2] bcast_S16384x3_S16384x1x3_0_2 x))
    (fun s l => x (ix2 s l)) (fun s j l => by pointwise) r l
  rw [← e, ← deg_apply]
  unfold newCoord
  rw [h0]
  pointwise
  rfl

/-- The new features at an index. -/
theorem newFeat_apply (k : IVec S16384 1) (x : FVec Ideal S16384x512 .f32) (w : FVec Ideal S512x512 .f32) (r : Fin 32771) (l : Fin 512) :
    newFeat k x w (ix2 r l)
      = Ideal.div (rowsum (fun s => if k (ix1 s) = 1#1 then ∑ q : Fin 512, x (ix2 s q) * w (ix2 q l) else 0) r.val) (max (num k r.val) 1) := by
  have h0 : (broadcastInDim S32771x512 ![] bcast_S_S32771x512 (constant S_ .f32 0x00000000#32) : FVec Ideal S32771x512 .f32) = fun _ => (0 : EReal) := by
    funext i; idx_vars i; pointwise
  have e := feats_apply k (broadcastInDim S16384x5x512 ![0, 1, 2] bcast_S16384x1x512_S16384x5x512_0_1_2 (broadcastInDim S16384x1x512 ![0, 2] bcast_S16384x512_S16384x1x512_0_2
        (Host.dotGeneral dot_S16384x512_S512x512_S16384x512_1_0_0_1_n_n none x w)))
    (fun s l => ∑ q : Fin 512, x (ix2 s q) * w (ix2 q l)) (fun s j l => by pointwise) r l
  rw [← e, ← deg_apply]
  unfold newFeat
  rw [h0]
  pointwise
  rfl

end Cert.Proof.UpsampleRef

end
-- ==== Proof.Same.lean ====
/-
  The reference's four results are the kernel's, when both are run on the same arguments.
-/
module

public import proofs.«01_k».proof.Proof.Suffix
public import proofs.«01_k».proof.Proof.RefValues

@[expose] public section

set_option maxRecDepth 16384

noncomputable section

namespace Cert.Proof.UpsampleRef

open Idealize.ShloMosaic Idealize.ShloMosaic.TcCoe Idealize.ShloMosaic.Tactic
open Idealize.SL Idealize.SL.Sem
open Cert.Proof.Upsample (rowsum bit)

/-- The masked choice of a value is its product with the mask's bit. -/
theorem ite_bit (b : BitVec 1) (x : EReal) : (if b = 1#1 then x else 0) = x * bit b := by
  simp only [bit]
  split_ifs <;> simp

section Kernel

open Cert.KernelIdeal Cert.KernelIdeal.Gen
open Cert.Proof.Upsample

variable (m : (ℓ : Loc nD τ sig) → Buf (Elt Ideal) ℓ) (c : Dev nD)

/-- The kernel's count of the rows of features is the reference's. -/
theorem csum_feat (r : ℕ) : csum m c r 4 = num (m ((c : Thread nD τ).loc main_arg1)) r := rfl

/-- The kernel's count of the rows of coordinates is the reference's. -/
theorem csum_coord (r : ℕ) : csum m c r 3 = num (m ((c : Thread nD τ).loc main_arg3)) r := rfl

/-- The kernel's sums of coordinates are the sums of the rows that are not masked out. -/
theorem csum_low (r : ℕ) (l : Fin 3) : csum m c r ⟨l.val, by omega⟩
    = rowsum (fun s => if mC m c s = 1#1 then crd m c s l else 0) r := by
  unfold csum
  refine congrArg (rowsum · r) (funext fun s => ?_)
  rw [ite_bit, colX, dif_pos l.isLt]

/-- The kernel's sums of features are the sums of the rows that are not masked out. -/
theorem asum_eq (r : ℕ) (l : Fin 512) : asum m c r l = rowsum (fun s => if mI m c s = 1#1 then lin m c s l else 0) r := by
  unfold asum
  refine congrArg (rowsum · r) (funext fun s => ?_)
  rw [ite_bit]

/-- The features agree. -/
theorem feat_same : newFeat (m ((c : Thread nD τ).loc main_arg1)) (m ((c : Thread nD τ).loc main_arg0)) (m ((c : Thread nD τ).loc main_arg4)) = F6 m c := by
  funext i
  idx_vars i
  rw [newFeat_apply, ← csum_feat]
  show _ = Ideal.div (asum m c i0.val i1) (max (csum m c i0.val 4) 1)
  rw [asum_eq]
  rfl

/-- A new coordinate of the kernel is the quotient of the sum of the rows that are not masked out. -/
theorem cval_eq (r : ℕ) (l : Fin 3) : cval m c r l
    = Ideal.div (rowsum (fun s => if mC m c s = 1#1 then crd m c s l else 0) r) (max (csum m c r 3) 1 + Ideal.ofBits .f32 0x358637bd#32) := by
  unfold cval
  rw [csum_low]

/-- The coordinates agree. -/
theorem coord_same : newCoord (m ((c : Thread nD τ).loc main_arg3)) (m ((c : Thread nD τ).loc main_arg2)) = F7 m c := by
  funext i
  idx_vars i
  rw [newCoord_apply, ← csum_coord]
  exact (cval_eq m c i0.val i1).symm

/-- The features' masks agree. -/
theorem featMask_same : newMask (m ((c : Thread nD τ).loc main_arg1)) = M13 m c := by
  funext i
  idx_vars i
  rw [newMask_apply, ← csum_feat]
  rfl

/-- The coordinates' masks agree. -/
theorem coordMask_same : newMask (m ((c : Thread nD τ).loc main_arg3)) = M15 m c := by
  funext i
  idx_vars i
  rw [newMask_apply, ← csum_coord]
  rfl

end Kernel

section Reference

open Cert.ReferenceIdeal Cert.ReferenceIdeal.Gen Cert.ReferenceIdeal.Value

variable (m : (ℓ : Loc nD τ sig) → Buf (Elt Ideal) ℓ) (ρ : Dev nD → PrngReg)

/-- What the reference's run leaves: the four results, and the arguments as they were. -/
theorem results : θ_run defs (onTc (τ := τ) (main (F := Ideal))) ⟨m, fun _ => 0, ρ⟩ fun r => ∀ c : Dev nD,
      r.2.mem ((c.tc : Thread nD τ).loc main_v72)
        = newFeat (m ((c.tc : Thread nD τ).loc main_arg1)) (m ((c.tc : Thread nD τ).loc main_arg0)) (m ((c.tc : Thread nD τ).loc main_arg4))
      ∧ r.2.mem ((c.tc : Thread nD τ).loc main_v40) = newMask (m ((c.tc : Thread nD τ).loc main_arg1))
      ∧ r.2.mem ((c.tc : Thread nD τ).loc main_v58)
        = newCoord (m ((c.tc : Thread nD τ).loc main_arg3)) (m ((c.tc : Thread nD τ).loc main_arg2))
      ∧ r.2.mem ((c.tc : Thread nD τ).loc main_v26) = newMask (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h72, h40, h58, h26, rest⟩ := h c
    exact ⟨h72.trans (by unfold res_main_v72; rfl), h40.trans rfl, h58.trans (by unfold res_main_v58; rfl), h26.trans rfl, rest⟩) (run m ρ)

end Reference

end Cert.Proof.UpsampleRef

end
-- ==== Proof.lean ====
/-
  The certificate: kernel, ideal kernel and reference end without fault with their arguments unchanged; the ideal kernel is
  the kernel's own text; kernel and reference leave the same four results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Printed
public import proofs.«01_k».proof.Proof.Same
public import Idealize.ShloMosaic.Adequacy
public import Idealize.ShloMosaic.Init
public import Idealize.ShloMosaic.Lib.Claim

@[expose] public section

noncomputable section

namespace Cert.Proof

open Idealize.ShloMosaic Idealize.SL.Sem

/-- The reference runs, leaves its arguments as they were and every semaphore counter at zero. -/
theorem reference_frame : quiescent_ReferenceIdeal (hReferenceIdeal := Cert.ReferenceIdeal.Gen.facts) := fun m ρ _ =>
  (θ_run Cert.ReferenceIdeal.defs _ _).mono
    (fun r h => ⟨fun c => (h c).2.2.2.2, sem_eq_zero_of_no_sems (by decide) r.2⟩)
    (Cert.Proof.UpsampleRef.results m ρ)

/-- From the same arguments, kernel and reference leave the same four results. -/
theorem same_results : algebraic_KernelIdeal_ReferenceIdeal (hKernelIdeal := Cert.KernelIdeal.Gen.facts)
    (hReferenceIdeal := Cert.ReferenceIdeal.Gen.facts) := fun m g m' g' _ args =>
  ⟨Cert.Proof.Upsample.F6 m, Cert.Proof.Upsample.M13 m, Cert.Proof.Upsample.F7 m, Cert.Proof.Upsample.M15 m,
    Cert.Proof.Upsample.results m g,
    (θ_run Cert.ReferenceIdeal.defs _ _).mono (fun r h c => by
      obtain ⟨h72, h40, h58, h26, rest⟩ := h c
      obtain ⟨a0, a1, a2, a3, a4⟩ := args c
      rw [a0, a1, a4] at h72
      rw [a1] at h40
      rw [a2, a3] at h58
      rw [a3] at h26
      exact ⟨h72.trans (Cert.Proof.UpsampleRef.feat_same m c), h40.trans (Cert.Proof.UpsampleRef.featMask_same m c),
        h58.trans (Cert.Proof.UpsampleRef.coord_same m c), h26.trans (Cert.Proof.UpsampleRef.coordMask_same m c), rest⟩)
      (Cert.Proof.UpsampleRef.results m' g')⟩

/-- The five claims: the three frames, the idealization without rewrites, and the equality of all four results. -/
theorem claim : Cert.Claim :=
  ⟨Cert.Kernel.Gen.facts, Cert.KernelIdeal.Gen.facts, Cert.ReferenceIdeal.Gen.facts,
    Cert.Proof.Printed.kernel_frame, fun m ρ _ => Cert.Proof.Upsample.frame m ρ, reference_frame, trivial, same_results⟩

end Cert.Proof

end
